-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def Pre_S5RefIdeal (m : (ℓ : Loc Cert.S5RefIdeal.nD Cert.S5RefIdeal.τ Cert.S5RefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5)
      ∧ r.2.mem ((c.tc : Thread Cert.S5.nD Cert.S5.τ).loc Cert.S5.main_arg6) = m ((c.tc : Thread Cert.S5.nD Cert.S5.τ).loc Cert.S5.main_arg6)
      ∧ r.2.mem ((c.tc : Thread Cert.S5.nD Cert.S5.τ).loc Cert.S5.main_arg7) = m ((c.tc : Thread Cert.S5.nD Cert.S5.τ).loc Cert.S5.main_arg7)
      ∧ r.2.mem ((c.tc : Thread Cert.S5.nD Cert.S5.τ).loc Cert.S5.main_arg8) = m ((c.tc : Thread Cert.S5.nD Cert.S5.τ).loc Cert.S5.main_arg8))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
      ∧ r.2.mem ((c.tc : Thread Cert.S5Ideal.nD Cert.S5Ideal.τ).loc Cert.S5Ideal.main_arg8) = m ((c.tc : Thread Cert.S5Ideal.nD Cert.S5Ideal.τ).loc Cert.S5Ideal.main_arg8))
      ∧ r.2.sem = fun _ => 0)

def quiescent_S5RefIdeal [hS5RefIdeal : Cert.S5RefIdeal.Facts] : Prop :=
  ∀ (m : (ℓ : Loc Cert.S5RefIdeal.nD Cert.S5RefIdeal.τ Cert.S5RefIdeal.sig) → Buf (Elt Ideal) ℓ) (g : Dev Cert.S5RefIdeal.nD → PrngReg), Pre_S5RefIdeal m →
    θ_run (Cert.S5RefIdeal.defs (F := Ideal)) (onTc (τ := Cert.S5RefIdeal.τ) (Cert.S5RefIdeal.main (F := Ideal))) ⟨m, fun _ => 0, g⟩ (fun r => (∀ c : Dev Cert.S5RefIdeal.nD,
      r.2.mem ((c.tc : Thread Cert.S5RefIdeal.nD Cert.S5RefIdeal.τ).loc Cert.S5RefIdeal.main_arg0) = m ((c.tc : Thread Cert.S5RefIdeal.nD Cert.S5RefIdeal.τ).loc Cert.S5RefIdeal.main_arg0)
      ∧ r.2.mem ((c.tc : Thread Cert.S5RefIdeal.nD Cert.S5RefIdeal.τ).loc Cert.S5RefIdeal.main_arg1) = m ((c.tc : Thread Cert.S5RefIdeal.nD Cert.S5RefIdeal.τ).loc Cert.S5RefIdeal.main_arg1)
      ∧ r.2.mem ((c.tc : Thread Cert.S5RefIdeal.nD Cert.S5RefIdeal.τ).loc Cert.S5RefIdeal.main_arg2) = m ((c.tc : Thread Cert.S5RefIdeal.nD Cert.S5RefIdeal.τ).loc Cert.S5RefIdeal.main_arg2)
      ∧ r.2.mem ((c.tc : Thread Cert.S5RefIdeal.nD Cert.S5RefIdeal.τ).loc Cert.S5RefIdeal.main_arg3) = m ((c.tc : Thread Cert.S5RefIdeal.nD Cert.S5RefIdeal.τ).loc Cert.S5RefIdeal.main_arg3)
      ∧ r.2.mem ((c.tc : Thread Cert.S5RefIdeal.nD Cert.S5RefIdeal.τ).loc Cert.S5RefIdeal.main_arg4) = m ((c.tc : Thread Cert.S5RefIdeal.nD Cert.S5RefIdeal.τ).loc Cert.S5RefIdeal.main_arg4)
      ∧ r.2.mem ((c.tc : Thread Cert.S5RefIdeal.nD Cert.S5RefIdeal.τ).loc Cert.S5RefIdeal.main_arg5) = m ((c.tc : Thread Cert.S5RefIdeal.nD Cert.S5RefIdeal.τ).loc Cert.S5RefIdeal.main_arg5)
      ∧ r.2.mem ((c.tc : Thread Cert.S5RefIdeal.nD Cert.S5RefIdeal.τ).loc Cert.S5RefIdeal.main_arg6) = m ((c.tc : Thread Cert.S5RefIdeal.nD Cert.S5RefIdeal.τ).loc Cert.S5RefIdeal.main_arg6)
      ∧ r.2.mem ((c.tc : Thread Cert.S5RefIdeal.nD Cert.S5RefIdeal.τ).loc Cert.S5RefIdeal.main_arg7) = m ((c.tc : Thread Cert.S5RefIdeal.nD Cert.S5RefIdeal.τ).loc Cert.S5RefIdeal.main_arg7)
      ∧ r.2.mem ((c.tc : Thread Cert.S5RefIdeal.nD Cert.S5RefIdeal.τ).loc Cert.S5RefIdeal.main_arg8) = m ((c.tc : Thread Cert.S5RefIdeal.nD Cert.S5RefIdeal.τ).loc Cert.S5RefIdeal.main_arg8))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v30)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v30) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v55) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v4)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v4) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v36) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v27)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v27) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v37) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_S5_S5Ideal : Prop :=
  True

def algebraic_S5Ideal_S5RefIdeal [hS5Ideal : Cert.S5Ideal.Facts] [hS5RefIdeal : Cert.S5RefIdeal.Facts] : Prop :=
  ∀ (m : (ℓ : Loc Cert.S5Ideal.nD Cert.S5Ideal.τ Cert.S5Ideal.sig) → Buf (Elt Ideal) ℓ) (g : Dev Cert.S5Ideal.nD → PrngReg)
    (m' : (ℓ : Loc Cert.S5RefIdeal.nD Cert.S5RefIdeal.τ Cert.S5RefIdeal.sig) → Buf (Elt Ideal) ℓ) (g' : Dev Cert.S5RefIdeal.nD → PrngReg), Pre_S5Ideal m →
    (∀ c : Dev Cert.S5Ideal.nD,
      m' ((c.tc : Thread Cert.S5RefIdeal.nD Cert.S5RefIdeal.τ).loc Cert.S5RefIdeal.main_arg0) = m ((c.tc : Thread Cert.S5Ideal.nD Cert.S5Ideal.τ).loc Cert.S5Ideal.main_arg0)
      ∧ m' ((c.tc : Thread Cert.S5RefIdeal.nD Cert.S5RefIdeal.τ).loc Cert.S5RefIdeal.main_arg1) = m ((c.tc : Thread Cert.S5Ideal.nD Cert.S5Ideal.τ).loc Cert.S5Ideal.main_arg1)
      ∧ m' ((c.tc : Thread Cert.S5RefIdeal.nD Cert.S5RefIdeal.τ).loc Cert.S5RefIdeal.main_arg2) = m ((c.tc : Thread Cert.S5Ideal.nD Cert.S5Ideal.τ).loc Cert.S5Ideal.main_arg2)
      ∧ m' ((c.tc : Thread Cert.S5RefIdeal.nD Cert.S5RefIdeal.τ).loc Cert.S5RefIdeal.main_arg3) = m ((c.tc : Thread Cert.S5Ideal.nD Cert.S5Ideal.τ).loc Cert.S5Ideal.main_arg3)
      ∧ m' ((c.tc : Thread Cert.S5RefIdeal.nD Cert.S5RefIdeal.τ).loc Cert.S5RefIdeal.main_arg4) = m ((c.tc : Thread Cert.S5Ideal.nD Cert.S5Ideal.τ).loc Cert.S5Ideal.main_arg4)
      ∧ m' ((c.tc : Thread Cert.S5RefIdeal.nD Cert.S5RefIdeal.τ).loc Cert.S5RefIdeal.main_arg5) = m ((c.tc : Thread Cert.S5Ideal.nD Cert.S5Ideal.τ).loc Cert.S5Ideal.main_arg5)
      ∧ m' ((c.tc : Thread Cert.S5RefIdeal.nD Cert.S5RefIdeal.τ).loc Cert.S5RefIdeal.main_arg6) = m ((c.tc : Thread Cert.S5Ideal.nD Cert.S5Ideal.τ).loc Cert.S5Ideal.main_arg6)
      ∧ m' ((c.tc : Thread Cert.S5RefIdeal.nD Cert.S5RefIdeal.τ).loc Cert.S5RefIdeal.main_arg7) = m ((c.tc : Thread Cert.S5Ideal.nD Cert.S5Ideal.τ).loc Cert.S5Ideal.main_arg7)
      ∧ m' ((c.tc : Thread Cert.S5RefIdeal.nD Cert.S5RefIdeal.τ).loc Cert.S5RefIdeal.main_arg8) = m ((c.tc : Thread Cert.S5Ideal.nD Cert.S5Ideal.τ).loc Cert.S5Ideal.main_arg8)) →
    ∃ (v0 : (c : Dev Cert.S5Ideal.nD) → Buf (Elt Ideal) ((c.tc : Thread Cert.S5Ideal.nD Cert.S5Ideal.τ).loc Cert.S5Ideal.main_v218)),
      θ_run (Cert.S5Ideal.defs (F := Ideal)) (onTc (τ := Cert.S5Ideal.τ) (Cert.S5Ideal.main (F := Ideal))) ⟨m, fun _ => 0, g⟩ (fun r => ∀ c : Dev Cert.S5Ideal.nD,
          r.2.mem ((c.tc : Thread Cert.S5Ideal.nD Cert.S5Ideal.τ).loc Cert.S5Ideal.main_v218) = v0 c
          ∧ r.2.mem ((c.tc : Thread Cert.S5Ideal.nD Cert.S5Ideal.τ).loc Cert.S5Ideal.main_arg0) = m ((c.tc : Thread Cert.S5Ideal.nD Cert.S5Ideal.τ).loc Cert.S5Ideal.main_arg0)
          ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
          ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
          ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
          ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
          ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
          ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
          ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
          ∧ r.2.mem ((c.tc : Thread Cert.S5Ideal.nD Cert.S5Ideal.τ).loc Cert.S5Ideal.main_arg8) = m ((c.tc : Thread Cert.S5Ideal.nD Cert.S5Ideal.τ).loc Cert.S5Ideal.main_arg8))
      ∧ θ_run (Cert.S5RefIdeal.defs (F := Ideal)) (onTc (τ := Cert.S5RefIdeal.τ) (Cert.S5RefIdeal.main (F := Ideal))) ⟨m', fun _ => 0, g'⟩ (fun r => ∀ c : Dev Cert.S5RefIdeal.nD,
          r.2.mem ((c.tc : Thread Cert.S5RefIdeal.nD Cert.S5RefIdeal.τ).loc Cert.S5RefIdeal.main_v85) = v0 c
          ∧ r.2.mem ((c.tc : Thread Cert.S5RefIdeal.nD Cert.S5RefIdeal.τ).loc Cert.S5RefIdeal.main_arg0) = m' ((c.tc : Thread Cert.S5RefIdeal.nD Cert.S5RefIdeal.τ).loc Cert.S5RefIdeal.main_arg0)
          ∧ r.2.mem ((c.tc : Thread Cert.S5RefIdeal.nD Cert.S5RefIdeal.τ).loc Cert.S5RefIdeal.main_arg1) = m' ((c.tc : Thread Cert.S5RefIdeal.nD Cert.S5RefIdeal.τ).loc Cert.S5RefIdeal.main_arg1)
          ∧ r.2.mem ((c.tc : Thread Cert.S5RefIdeal.nD Cert.S5RefIdeal.τ).loc Cert.S5RefIdeal.main_arg2) = m' ((c.tc : Thread Cert.S5RefIdeal.nD Cert.S5RefIdeal.τ).loc Cert.S5RefIdeal.main_arg2)
          ∧ r.2.mem ((c.tc : Thread Cert.S5RefIdeal.nD Cert.S5RefIdeal.τ).loc Cert.S5RefIdeal.main_arg3) = m' ((c.tc : Thread Cert.S5RefIdeal.nD Cert.S5RefIdeal.τ).loc Cert.S5RefIdeal.main_arg3)
          ∧ r.2.mem ((c.tc : Thread Cert.S5RefIdeal.nD Cert.S5RefIdeal.τ).loc Cert.S5RefIdeal.main_arg4) = m' ((c.tc : Thread Cert.S5RefIdeal.nD Cert.S5RefIdeal.τ).loc Cert.S5RefIdeal.main_arg4)
          ∧ r.2.mem ((c.tc : Thread Cert.S5RefIdeal.nD Cert.S5RefIdeal.τ).loc Cert.S5RefIdeal.main_arg5) = m' ((c.tc : Thread Cert.S5RefIdeal.nD Cert.S5RefIdeal.τ).loc Cert.S5RefIdeal.main_arg5)
          ∧ r.2.mem ((c.tc : Thread Cert.S5RefIdeal.nD Cert.S5RefIdeal.τ).loc Cert.S5RefIdeal.main_arg6) = m' ((c.tc : Thread Cert.S5RefIdeal.nD Cert.S5RefIdeal.τ).loc Cert.S5RefIdeal.main_arg6)
          ∧ r.2.mem ((c.tc : Thread Cert.S5RefIdeal.nD Cert.S5RefIdeal.τ).loc Cert.S5RefIdeal.main_arg7) = m' ((c.tc : Thread Cert.S5RefIdeal.nD Cert.S5RefIdeal.τ).loc Cert.S5RefIdeal.main_arg7)
          ∧ r.2.mem ((c.tc : Thread Cert.S5RefIdeal.nD Cert.S5RefIdeal.τ).loc Cert.S5RefIdeal.main_arg8) = m' ((c.tc : Thread Cert.S5RefIdeal.nD Cert.S5RefIdeal.τ).loc Cert.S5RefIdeal.main_arg8))

def Claim : Prop :=
  ∃ (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hGlu : Cert.Glu.Facts) (hGluIdeal : Cert.GluIdeal.Facts) (hGluRefIdeal : Cert.GluRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hS5 : Cert.S5.Facts) (hS5Ideal : Cert.S5Ideal.Facts) (hS5RefIdeal : Cert.S5RefIdeal.Facts),
    quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Glu (hGlu := hGlu)
    ∧ quiescent_GluIdeal (hGluIdeal := hGluIdeal)
    ∧ quiescent_GluRefIdeal (hGluRefIdeal := hGluRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_S5 (hS5 := hS5)
    ∧ quiescent_S5Ideal (hS5Ideal := hS5Ideal)
    ∧ quiescent_S5RefIdeal (hS5RefIdeal := hS5RefIdeal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Glu_GluIdeal
    ∧ algebraic_GluIdeal_GluRefIdeal (hGluIdeal := hGluIdeal) (hGluRefIdeal := hGluRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_S5_S5Ideal
    ∧ algebraic_S5Ideal_S5RefIdeal (hS5Ideal := hS5Ideal) (hS5RefIdeal := hS5RefIdeal)
-- ==== Ffn.lean ====
abbrev S2x8192x2048 : Shape := ⟨3, ![2, 8192, 2048]⟩
abbrev S1x2048 : Shape := ⟨2, ![1, 2048]⟩
abbrev S2x2048 : Shape := ⟨2, ![2, 2048]⟩
abbrev S1x2048x11264 : Shape := ⟨3, ![1, 2048, 11264]⟩
abbrev S1x5632x2048 : Shape := ⟨3, ![1, 5632, 2048]⟩
abbrev S2048 : Shape := ⟨1, ![2048]⟩
abbrev S2x1x2048 : Shape := ⟨3, ![2, 1, 2048]⟩
abbrev S2048x11264 : Shape := ⟨2, ![2048, 11264]⟩
abbrev S5632x2048 : Shape := ⟨2, ![5632, 2048]⟩
abbrev S1x512x2048 : Shape := ⟨3, ![1, 512, 2048]⟩
abbrev S1x1x2048 : Shape := ⟨3, ![1, 1, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩

abbrev nBuf : Space → Nat
  | .hbm => 19
  | .vmem => 20
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S1x2048x11264, .f32⟩
  | .hbm, ⟨6, _⟩ => ⟨S1x5632x2048, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2048x11264, .f32⟩
  | .hbm, ⟨14, _⟩ => ⟨S2048x11264, .bf16⟩
  | .hbm, ⟨15, _⟩ => ⟨S5632x2048, .f32⟩
  | .hbm, ⟨16, _⟩ => ⟨S5632x2048, .bf16⟩
  | .hbm, ⟨17, _⟩ => ⟨S1x2048, .f32⟩
  | .hbm, ⟨18, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1x512x2048, .f32⟩
  | .local _ .vmem, ⟨17, _⟩ => ⟨S1x512x2048, .f32⟩
  | .local _ .vmem, ⟨18, _⟩ => ⟨S512x2048, .bf16⟩
  | .local _ .vmem, ⟨19, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 16, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== FfnRefIdeal.lean ====
abbrev S2x8192x2048 : Shape := ⟨3, ![2, 8192, 2048]⟩
abbrev S1x2048 : Shape := ⟨2, ![1, 2048]⟩
abbrev S2x2048 : Shape := ⟨2, ![2, 2048]⟩
abbrev S1x2048x11264 : Shape := ⟨3, ![1, 2048, 11264]⟩
abbrev S1x5632x2048 : Shape := ⟨3, ![1, 5632, 2048]⟩
abbrev S2048 : Shape := ⟨1, ![2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x11264 : Shape := ⟨2, ![2048, 11264]⟩
abbrev S5632x2048 : Shape := ⟨2, ![5632, 2048]⟩
abbrev S2x8192x11264 : Shape := ⟨3, ![2, 8192, 11264]⟩
abbrev S2x8192x5632 : Shape := ⟨3, ![2, 8192, 5632]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S1x2048x11264, .f32⟩
  | .hbm, ⟨6, _⟩ => ⟨S1x5632x2048, .f32⟩
  | .hbm, ⟨7, _⟩ => ⟨S2048, .f32⟩
  | .hbm, ⟨8, _⟩ => ⟨S2x1x2048, .f32⟩
  | .hbm, ⟨9, _⟩ => ⟨S2048, .f32⟩
  | .hbm, ⟨10, _⟩ => ⟨S2x8192x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x1x2048, .f32⟩
  | .hbm, ⟨33, _⟩ => ⟨S2x8192x2048, .f32⟩
  | .hbm, ⟨34, _⟩ => ⟨S2x8192x2048, .f32⟩
  | .hbm, ⟨35, _⟩ => ⟨S2048x11264, .f32⟩
  | .hbm, ⟨36, _⟩ => ⟨S5632x2048, .f32⟩
  | .hbm, ⟨37, _⟩ => ⟨S2x8192x11264, .f32⟩
  | .hbm, ⟨38, _⟩ => ⟨S2x8192x5632, .f32⟩
  | .hbm, ⟨39, _⟩ => ⟨S2x8192x5632, .f32⟩
  | .hbm, ⟨40, _⟩ => ⟨S2x8192x5632, .f32⟩
  | .hbm, ⟨41, _⟩ => ⟨S2x8192x5632, .f32⟩
  | .hbm, ⟨42, _⟩ => ⟨S_, .f32⟩
  | .hbm, ⟨43, _⟩ => ⟨S2x8192x5632, .f32⟩
  | .hbm, ⟨44, _⟩ => ⟨S2x8192x5632, .f32⟩
  | .hbm, ⟨45, _⟩ => ⟨S_, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S2x8192x5632, .f32⟩
  | .hbm, ⟨50, _⟩ => ⟨S2x8192x2048, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S_, .f32⟩
  | .hbm, ⟨56, _⟩ => ⟨S2x8192, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S_, .f32⟩
  | .hbm, ⟨62, _⟩ => ⟨S2x8192x1, .f32⟩
  | .hbm, ⟨63, _⟩ => ⟨S2x8192x1, .f32⟩
  | .hbm, ⟨64, _⟩ => ⟨S2x8192x1, .f32⟩
  | .hbm, ⟨65, _⟩ => ⟨S2x8192x2048, .f32⟩
  | .hbm, ⟨66, _⟩ => ⟨S2x8192x2048, .f32⟩
  | .hbm, ⟨67, _⟩ => ⟨S1x1x2048, .f32⟩
  | .hbm, ⟨68, _⟩ => ⟨S2x8192x2048, .f32⟩
  | .hbm, ⟨69, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== InProj.lean ====
abbrev S2x8192x2048 : Shape := ⟨3, ![2, 8192, 2048]⟩
abbrev S1x2048 : Shape := ⟨2, ![1, 2048]⟩
abbrev S2x2048 : Shape := ⟨2, ![2, 2048]⟩
abbrev S1x2048x8192 : Shape := ⟨3, ![1, 2048, 8192]⟩
abbrev S512 : Shape := ⟨1, ![512]⟩
abbrev S_ : Shape := ⟨0, ![]⟩
abbrev S128 : Shape := ⟨1, ![128]⟩
abbrev S128x1 : Shape := ⟨2, ![128, 1]⟩
abbrev S1x512 : Shape := ⟨2, ![1, 512]⟩
abbrev S128x512 : Shape := ⟨2, ![128, 512]⟩
abbrev S64 : Shape := ⟨1, ![64]⟩
abbrev S64x1 : Shape := ⟨2, ![64, 1]⟩
abbrev S64x512 : Shape := ⟨2, ![64, 512]⟩
abbrev S128x1024 : Shape := ⟨2, ![128, 1024]⟩
abbrev S64x1024 : Shape := ⟨2, ![64, 1024]⟩
abbrev S2048x8192 : Shape := ⟨2, ![2048, 8192]⟩
abbrev S2048 : Shape := ⟨1, ![2048]⟩
abbrev S2x1x2048 : Shape := ⟨3, ![2, 1, 2048]⟩
abbrev S2x8192x8192 : Shape := ⟨3, ![2, 8192, 8192]⟩
abbrev S1x512x2048 : Shape := ⟨3, ![1, 512, 2048]⟩
abbrev S8x1024 : Shape := ⟨2, ![8, 1024]⟩
abbrev S1x1x2048 : Shape := ⟨3, ![1, 1, 2048]⟩
abbrev S2048x1024 : Shape := ⟨2, ![2048, 1024]⟩
abbrev S1x512x1024 : Shape := ⟨3, ![1, 512, 1024]⟩
abbrev S512x2048 : Shape := ⟨2, ![512, 2048]⟩
abbrev S8x1x1024 : Shape := ⟨3, ![8, 1, 1024]⟩
abbrev S8x64x1024 : Shape := ⟨3, ![8, 64, 1024]⟩
abbrev S512x1024 : Shape := ⟨2, ![512, 1024]⟩
abbrev S1x64x1024 : Shape := ⟨3, ![1, 64, 1024]⟩
abbrev S512x1 : Shape := ⟨2, ![512, 1]⟩

abbrev nBuf : Space → Nat
  | .hbm => 38
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x2048, .f32⟩
  | .hbm, ⟨3, _⟩ => ⟨S2x2048, .f32⟩
  | .hbm, ⟨4, _⟩ => ⟨S1x2048x8192, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S128, .f32⟩
  | .hbm, ⟨14, _⟩ => ⟨S128x1, .f32⟩
  | .hbm, ⟨15, _⟩ => ⟨S1x512, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S64, .f32⟩
  | .hbm, ⟨20, _⟩ => ⟨S64x1, .f32⟩
  | .hbm, ⟨21, _⟩ => ⟨S1x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S128x512, .f32⟩
  | .hbm, ⟨26, _⟩ => ⟨S128x512, .f32⟩
  | .hbm, ⟨27, _⟩ => ⟨S128x1024, .f32⟩
  | .hbm, ⟨28, _⟩ => ⟨S64x512, .f32⟩
  | .hbm, ⟨29, _⟩ => ⟨S64x512, .f32⟩
  | .hbm, ⟨30, _⟩ => ⟨S64x1024, .f32⟩
  | .hbm, ⟨31, _⟩ => ⟨S2048x8192, .f32⟩
  | .hbm, ⟨32, _⟩ => ⟨S2048x8192, .bf16⟩
  | .hbm, ⟨33, _⟩ => ⟨S2048, .f32⟩
  | .hbm, ⟨34, _⟩ => ⟨S1x2048, .f32⟩
  | .hbm, ⟨35, _⟩ => ⟨S2x1x2048, .f32⟩
  | .hbm, ⟨36, _⟩ => ⟨S2x1x2048, .f32⟩
  | .hbm, ⟨37, _⟩ => ⟨S2x8192x8192, .bf16⟩
  | .local _ .vmem, ⟨0, _⟩ => ⟨S1x512x2048, .f32⟩
  | .local _ .vmem, ⟨1, _⟩ => ⟨S1x512x2048, .f32⟩
  | .local _ .vmem, ⟨2, _⟩ => ⟨S8x1024, .f32⟩
  | .local _ .vmem, ⟨3, _⟩ => ⟨S8x1024, .f32⟩
  | .local _ .vmem, ⟨4, _⟩ => ⟨S64x1024, .f32⟩
  | .local _ .vmem, ⟨5, _⟩ => ⟨S1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S2048x1024, .bf16⟩
  | .local _ .vmem, ⟨11, _⟩ => ⟨S2048x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== InProjRefIdeal.lean ====
abbrev S2x8192x2048 : Shape := ⟨3, ![2, 8192, 2048]⟩
abbrev S1x2048 : Shape := ⟨2, ![1, 2048]⟩
abbrev S2x2048 : Shape := ⟨2, ![2, 2048]⟩
abbrev S1x2048x8192 : Shape := ⟨3, ![1, 2048, 8192]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S512 : Shape := ⟨1, ![512]⟩
abbrev S_ : Shape := ⟨0, ![]⟩
abbrev S8192x1 : Shape := ⟨2, ![8192, 1]⟩
abbrev S1x512 : Shape := ⟨2, ![1, 512]⟩
abbrev S8192x512 : Shape := ⟨2, ![8192, 512]⟩
abbrev S8192x2048 : Shape := ⟨2, ![8192, 2048]⟩
abbrev S1x8192x2048 : Shape := ⟨3, ![1, 8192, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2048x8192 : Shape := ⟨2, ![2048, 8192]⟩
abbrev S2x8192x8192 : Shape := ⟨3, ![2, 8192, 8192]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x2048, .f32⟩
  | .hbm, ⟨3, _⟩ => ⟨S2x2048, .f32⟩
  | .hbm, ⟨4, _⟩ => ⟨S1x2048x8192, .f32⟩
  | .hbm, ⟨5, _⟩ => ⟨S128, .f32⟩
  | .hbm, ⟨6, _⟩ => ⟨S128x64, .f32⟩
  | .hbm, ⟨7, _⟩ => ⟨S8192, .f32⟩
  | .hbm, ⟨8, _⟩ => ⟨S64, .f32⟩
  | .hbm, ⟨9, _⟩ => ⟨S1x64, .f32⟩
  | .hbm, ⟨10, _⟩ => ⟨S128x64, .f32⟩
  | .hbm, ⟨11, _⟩ => ⟨S8192, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S8192x1, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x1, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x2048, .f32⟩
  | .hbm, ⟨35, _⟩ => ⟨S1x8192x2048, .f32⟩
  | .hbm, ⟨36, _⟩ => ⟨S2x8192x2048, .f32⟩
  | .hbm, ⟨37, _⟩ => ⟨S2x8192x2048, .f32⟩
  | .hbm, ⟨38, _⟩ => ⟨S2048, .f32⟩
  | .hbm, ⟨39, _⟩ => ⟨S2x8192x2048, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x2048, .f32⟩
  | .hbm, ⟨51, _⟩ => ⟨S2x8192x2048, .f32⟩
  | .hbm, ⟨52, _⟩ => ⟨S1x1x2048, .f32⟩
  | .hbm, ⟨53, _⟩ => ⟨S2x8192x2048, .f32⟩
  | .hbm, ⟨54, _⟩ => ⟨S2x8192x2048, .f32⟩
  | .hbm, ⟨55, _⟩ => ⟨S2x1x2048, .f32⟩
  | .hbm, ⟨56, _⟩ => ⟨S_, .f32⟩
  | .hbm, ⟨57, _⟩ => ⟨S2x1x2048, .f32⟩
  | .hbm, ⟨58, _⟩ => ⟨S2x1x2048, .f32⟩
  | .hbm, ⟨59, _⟩ => ⟨S2x8192x2048, .f32⟩
  | .hbm, ⟨60, _⟩ => ⟨S2x8192x2048, .f32⟩
  | .hbm, ⟨61, _⟩ => ⟨S2x1x2048, .f32⟩
  | .hbm, ⟨62, _⟩ => ⟨S2x8192x2048, .f32⟩
  | .hbm, ⟨63, _⟩ => ⟨S2x8192x2048, .f32⟩
  | .hbm, ⟨64, _⟩ => ⟨S2048x8192, .f32⟩
  | .hbm, ⟨65, _⟩ => ⟨S2x8192x8192, .f32⟩
  | .hbm, ⟨66, _⟩ => ⟨S2x8192x8192, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== Glu.lean ====
abbrev S2x2x8192x1024 : Shape := ⟨4, ![2, 2, 8192, 1024]⟩
abbrev S2x8192x8192 : Shape := ⟨3, ![2, 8192, 8192]⟩
abbrev S1x1024 : Shape := ⟨2, ![1, 1024]⟩
abbrev S1x1024x4096 : Shape := ⟨3, ![1, 1024, 4096]⟩
abbrev S1024 : Shape := ⟨1, ![1024]⟩
abbrev S1024x4096 : Shape := ⟨2, ![1024, 4096]⟩
abbrev S2x8192x2048 : Shape := ⟨3, ![2, 8192, 2048]⟩
abbrev S2x1x512x1024 : Shape := ⟨4, ![2, 1, 512, 1024]⟩
abbrev S1x512x1024 : Shape := ⟨3, ![1, 512, 1024]⟩
abbrev S1024x1024 : Shape := ⟨2, ![1024, 1024]⟩
abbrev S512x1024 : Shape := ⟨2, ![512, 1024]⟩
abbrev S1x1x512x1024 : Shape := ⟨4, ![1, 1, 512, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2x2x8192x1024, .f32⟩
  | .hbm, ⟨1, _⟩ => ⟨S2x8192x8192, .bf16⟩
  | .hbm, ⟨2, _⟩ => ⟨S1x1024, .f32⟩
  | .hbm, ⟨3, _⟩ => ⟨S1x1024x4096, .f32⟩
  | .hbm, ⟨4, _⟩ => ⟨S1024, .f32⟩
  | .hbm, ⟨5, _⟩ => ⟨S1x1024, .f32⟩
  | .hbm, ⟨6, _⟩ => ⟨S1024x4096, .f32⟩
  | .hbm, ⟨7, _⟩ => ⟨S1024x4096, .bf16⟩
  | .hbm, ⟨8, _⟩ => ⟨S2x8192x2048, .bf16⟩
  | .local _ .vmem, ⟨0, _⟩ => ⟨S2x1x512x1024, .f32⟩
  | .local _ .vmem, ⟨1, _⟩ => ⟨S2x1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S512x1024, .bf16⟩
  | _, _ => ⟨S2x2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GluRefIdeal.lean ====
abbrev S2x2x8192x1024 : Shape := ⟨4, ![2, 2, 8192, 1024]⟩
abbrev S2x8192x8192 : Shape := ⟨3, ![2, 8192, 8192]⟩
abbrev S1x1024 : Shape := ⟨2, ![1, 1024]⟩
abbrev S1x1024x4096 : Shape := ⟨3, ![1, 1024, 4096]⟩
abbrev S2x8192x1024 : Shape := ⟨3, ![2, 8192, 1024]⟩
abbrev S1x2x8192x1024 : Shape := ⟨4, ![1, 2, 8192, 1024]⟩
abbrev S1024 : Shape := ⟨1, ![1024]⟩
abbrev S1x1x1024 : Shape := ⟨3, ![1, 1, 1024]⟩
abbrev S_ : Shape := ⟨0, ![]⟩
abbrev S1024x4096 : Shape := ⟨2, ![1024, 4096]⟩
abbrev S2x8192x4096 : Shape := ⟨3, ![2, 8192, 4096]⟩
abbrev S2x8192x2048 : Shape := ⟨3, ![2, 8192, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x2x8192x1024, .f32⟩
  | .hbm, ⟨1, _⟩ => ⟨S2x8192x8192, .bf16⟩
  | .hbm, ⟨2, _⟩ => ⟨S1x1024, .f32⟩
  | .hbm, ⟨3, _⟩ => ⟨S1x1024x4096, .f32⟩
  | .hbm, ⟨4, _⟩ => ⟨S2x8192x8192, .f32⟩
  | .hbm, ⟨5, _⟩ => ⟨S2x8192x1024, .f32⟩
  | .hbm, ⟨6, _⟩ => ⟨S1x2x8192x1024, .f32⟩
  | .hbm, ⟨7, _⟩ => ⟨S2x8192x1024, .f32⟩
  | .hbm, ⟨8, _⟩ => ⟨S1x2x8192x1024, .f32⟩
  | .hbm, ⟨9, _⟩ => ⟨S2x8192x1024, .f32⟩
  | .hbm, ⟨10, _⟩ => ⟨S2x8192x1024, .f32⟩
  | .hbm, ⟨11, _⟩ => ⟨S1024, .f32⟩
  | .hbm, ⟨12, _⟩ => ⟨S1x1x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S_, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S1024x4096, .f32⟩
  | .hbm, ⟨34, _⟩ => ⟨S2x8192x4096, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8192x2048, .f32⟩
  | .hbm, ⟨39, _⟩ => ⟨S_, .f32⟩
  | .hbm, ⟨40, _⟩ => ⟨S2x8192x2048, .f32⟩
  | .hbm, ⟨41, _⟩ => ⟨S2x8192x2048, .f32⟩
  | .hbm, ⟨42, _⟩ => ⟨S_, .f32⟩
  | .hbm, ⟨43, _⟩ => ⟨S2x8192x2048, .f32⟩
  | .hbm, ⟨44, _⟩ => ⟨S2x8192x2048, .f32⟩
  | .hbm, ⟨45, _⟩ => ⟨S2x8192x2048, .f32⟩
  | .hbm, ⟨46, _⟩ => ⟨S2x8192x2048, .bf16⟩
  | _, _ => ⟨S2x2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Merge.lean ====
abbrev S2x8192x1024 : Shape := ⟨3, ![2, 8192, 1024]⟩
abbrev S1x1024x2048 : Shape := ⟨3, ![1, 1024, 2048]⟩
abbrev S2x8192x2048 : Shape := ⟨3, ![2, 8192, 2048]⟩
abbrev S2x8192x8192 : Shape := ⟨3, ![2, 8192, 8192]⟩
abbrev S1024x2048 : Shape := ⟨2, ![1024, 2048]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 8
  | .vmem => 15
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S1x1024x2048, .f32⟩
  | .hbm, ⟨3, _⟩ => ⟨S2x8192x2048, .bf16⟩
  | .hbm, ⟨4, _⟩ => ⟨S2x8192x8192, .bf16⟩
  | .hbm, ⟨5, _⟩ => ⟨S1024x2048, .f32⟩
  | .hbm, ⟨6, _⟩ => ⟨S1024x2048, .bf16⟩
  | .hbm, ⟨7, _⟩ => ⟨S2x8192x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  ![arg0.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== MergeRefIdeal.lean ====
abbrev S2x8192x1024 : Shape := ⟨3, ![2, 8192, 1024]⟩
abbrev S1x1024x2048 : Shape := ⟨3, ![1, 1024, 2048]⟩
abbrev S2x8192x2048 : Shape := ⟨3, ![2, 8192, 2048]⟩
abbrev S2x8192x8192 : Shape := ⟨3, ![2, 8192, 8192]⟩
abbrev S2x8192x4096 : Shape := ⟨3, ![2, 8192, 4096]⟩
abbrev S1024x2048 : Shape := ⟨2, ![1024, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S1x1024x2048, .f32⟩
  | .hbm, ⟨3, _⟩ => ⟨S2x8192x2048, .bf16⟩
  | .hbm, ⟨4, _⟩ => ⟨S2x8192x8192, .bf16⟩
  | .hbm, ⟨5, _⟩ => ⟨S2x8192x8192, .f32⟩
  | .hbm, ⟨6, _⟩ => ⟨S2x8192x4096, .f32⟩
  | .hbm, ⟨7, _⟩ => ⟨S2x8192x2048, .f32⟩
  | .hbm, ⟨8, _⟩ => ⟨S2x8192x2048, .f32⟩
  | .hbm, ⟨9, _⟩ => ⟨S2x8192x1024, .f32⟩
  | .hbm, ⟨10, _⟩ => ⟨S2x8192x1024, .f32⟩
  | .hbm, ⟨11, _⟩ => ⟨S1024x2048, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S_, .f32⟩
  | .hbm, ⟨16, _⟩ => ⟨S2x8192x2048, .f32⟩
  | .hbm, ⟨17, _⟩ => ⟨S2x8192x2048, .f32⟩
  | .hbm, ⟨18, _⟩ => ⟨S_, .f32⟩
  | .hbm, ⟨19, _⟩ => ⟨S2x8192x2048, .f32⟩
  | .hbm, ⟨20, _⟩ => ⟨S2x8192x2048, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S2x8192x2048, .f32⟩
  | .hbm, ⟨27, _⟩ => ⟨S2x8192x2048, .f32⟩
  | .hbm, ⟨28, _⟩ => ⟨S_, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== OutProj.lean ====
abbrev S2x8192x2048 : Shape := ⟨3, ![2, 8192, 2048]⟩
abbrev S1x2048x2048 : Shape := ⟨3, ![1, 2048, 2048]⟩
abbrev S2x2048 : Shape := ⟨2, ![2, 2048]⟩
abbrev S512 : Shape := ⟨1, ![512]⟩
abbrev S_ : Shape := ⟨0, ![]⟩
abbrev S128 : Shape := ⟨1, ![128]⟩
abbrev S128x1 : Shape := ⟨2, ![128, 1]⟩
abbrev S1x512 : Shape := ⟨2, ![1, 512]⟩
abbrev S128x512 : Shape := ⟨2, ![128, 512]⟩
abbrev S64 : Shape := ⟨1, ![64]⟩
abbrev S64x1 : Shape := ⟨2, ![64, 1]⟩
abbrev S64x512 : Shape := ⟨2, ![64, 512]⟩
abbrev S128x1024 : Shape := ⟨2, ![128, 1024]⟩
abbrev S64x1024 : Shape := ⟨2, ![64, 1024]⟩
abbrev S2048x2048 : Shape := ⟨2, ![2048, 2048]⟩
abbrev S2x1x2048 : Shape := ⟨3, ![2, 1, 2048]⟩
abbrev S1x512x2048 : Shape := ⟨3, ![1, 512, 2048]⟩
abbrev S8x1024 : Shape := ⟨2, ![8, 1024]⟩
abbrev S1x1x2048 : Shape := ⟨3, ![1, 1, 2048]⟩
abbrev S512x2048 : Shape := ⟨2, ![512, 2048]⟩
abbrev S8x1x1024 : Shape := ⟨3, ![8, 1, 1024]⟩
abbrev S8x64x1024 : Shape := ⟨3, ![8, 64, 1024]⟩
abbrev S512x1024 : Shape := ⟨2, ![512, 1024]⟩
abbrev S1x64x1024 : Shape := ⟨3, ![1, 64, 1024]⟩
abbrev S1x2048 : Shape := ⟨2, ![1, 2048]⟩

abbrev nBuf : Space → Nat
  | .hbm => 34
  | .vmem => 12
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x2048, .f32⟩
  | .hbm, ⟨2, _⟩ => ⟨S2x8192x2048, .f32⟩
  | .hbm, ⟨3, _⟩ => ⟨S2x2048, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S128, .f32⟩
  | .hbm, ⟨13, _⟩ => ⟨S128x1, .f32⟩
  | .hbm, ⟨14, _⟩ => ⟨S1x512, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S64, .f32⟩
  | .hbm, ⟨19, _⟩ => ⟨S64x1, .f32⟩
  | .hbm, ⟨20, _⟩ => ⟨S1x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S128x512, .f32⟩
  | .hbm, ⟨25, _⟩ => ⟨S128x512, .f32⟩
  | .hbm, ⟨26, _⟩ => ⟨S128x1024, .f32⟩
  | .hbm, ⟨27, _⟩ => ⟨S64x512, .f32⟩
  | .hbm, ⟨28, _⟩ => ⟨S64x512, .f32⟩
  | .hbm, ⟨29, _⟩ => ⟨S64x1024, .f32⟩
  | .hbm, ⟨30, _⟩ => ⟨S2048x2048, .f32⟩
  | .hbm, ⟨31, _⟩ => ⟨S2048x2048, .bf16⟩
  | .hbm, ⟨32, _⟩ => ⟨S2x1x2048, .f32⟩
  | .hbm, ⟨33, _⟩ => ⟨S2x8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S8x1024, .f32⟩
  | .local _ .vmem, ⟨6, _⟩ => ⟨S8x1024, .f32⟩
  | .local _ .vmem, ⟨7, _⟩ => ⟨S64x1024, .f32⟩
  | .local _ .vmem, ⟨8, _⟩ => ⟨S1x1x2048, .f32⟩
  | .local _ .vmem, ⟨9, _⟩ => ⟨S1x1x2048, .f32⟩
  | .local _ .vmem, ⟨10, _⟩ => ⟨S1x512x2048, .f32⟩
  | .local _ .vmem, ⟨11, _⟩ => ⟨S1x512x2048, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjRefIdeal.lean ====
abbrev S2x8192x2048 : Shape := ⟨3, ![2, 8192, 2048]⟩
abbrev S1x2048x2048 : Shape := ⟨3, ![1, 2048, 2048]⟩
abbrev S2x2048 : Shape := ⟨2, ![2, 2048]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S512 : Shape := ⟨1, ![512]⟩
abbrev S_ : Shape := ⟨0, ![]⟩
abbrev S8192x1 : Shape := ⟨2, ![8192, 1]⟩
abbrev S1x512 : Shape := ⟨2, ![1, 512]⟩
abbrev S8192x512 : Shape := ⟨2, ![8192, 512]⟩
abbrev S8192x2048 : Shape := ⟨2, ![8192, 2048]⟩
abbrev S1x8192x2048 : Shape := ⟨3, ![1, 8192, 2048]⟩
abbrev S2x1x2048 : Shape := ⟨3, ![2, 1, 2048]⟩
abbrev S2048x2048 : Shape := ⟨2, ![2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x2048, .f32⟩
  | .hbm, ⟨2, _⟩ => ⟨S2x8192x2048, .f32⟩
  | .hbm, ⟨3, _⟩ => ⟨S2x2048, .f32⟩
  | .hbm, ⟨4, _⟩ => ⟨S128, .f32⟩
  | .hbm, ⟨5, _⟩ => ⟨S128x64, .f32⟩
  | .hbm, ⟨6, _⟩ => ⟨S8192, .f32⟩
  | .hbm, ⟨7, _⟩ => ⟨S64, .f32⟩
  | .hbm, ⟨8, _⟩ => ⟨S1x64, .f32⟩
  | .hbm, ⟨9, _⟩ => ⟨S128x64, .f32⟩
  | .hbm, ⟨10, _⟩ => ⟨S8192, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S8192x1, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x1, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x2048, .f32⟩
  | .hbm, ⟨34, _⟩ => ⟨S1x8192x2048, .f32⟩
  | .hbm, ⟨35, _⟩ => ⟨S2x8192x2048, .f32⟩
  | .hbm, ⟨36, _⟩ => ⟨S2x8192x2048, .f32⟩
  | .hbm, ⟨37, _⟩ => ⟨S2x1x2048, .f32⟩
  | .hbm, ⟨38, _⟩ => ⟨S2x8192x2048, .f32⟩
  | .hbm, ⟨39, _⟩ => ⟨S2048x2048, .f32⟩
  | .hbm, ⟨40, _⟩ => ⟨S2x8192x2048, .f32⟩
  | .hbm, ⟨41, _⟩ => ⟨S2x8192x2048, .f32⟩
  | .hbm, ⟨42, _⟩ => ⟨S2x8192x2048, .f32⟩
  | .hbm, ⟨43, _⟩ => ⟨S2x8192x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== S5.lean ====
abbrev S2x256x1024 : Shape := ⟨3, ![2, 256, 1024]⟩
abbrev S2x8192x8192 : Shape := ⟨3, ![2, 8192, 8192]⟩
abbrev S1x2x64x64 : Shape := ⟨4, ![1, 2, 64, 64]⟩
abbrev S1x2x64 : Shape := ⟨3, ![1, 2, 64]⟩
abbrev S1x2x64x64x16 : Shape := ⟨5, ![1, 2, 64, 64, 16]⟩
abbrev S1x2x64x16x64 : Shape := ⟨5, ![1, 2, 64, 16, 64]⟩
abbrev S1x1x64x64 : Shape := ⟨4, ![1, 1, 64, 64]⟩
abbrev S64x64 : Shape := ⟨2, ![64, 64]⟩
abbrev S1x1x64 : Shape := ⟨3, ![1, 1, 64]⟩
abbrev S64 : Shape := ⟨1, ![64]⟩
abbrev S1x1x64x64x16 : Shape := ⟨5, ![1, 1, 64, 64, 16]⟩
abbrev S64x64x16 : Shape := ⟨3, ![64, 64, 16]⟩
abbrev S1x1x64x16x64 : Shape := ⟨5, ![1, 1, 64, 16, 64]⟩
abbrev S64x16x64 : Shape := ⟨3, ![64, 16, 64]⟩
abbrev S64x1 : Shape := ⟨2, ![64, 1]⟩
abbrev S_ : Shape := ⟨0, ![]⟩
abbrev S64x64x1 : Shape := ⟨3, ![64, 64, 1]⟩
abbrev S8x8 : Shape := ⟨2, ![8, 8]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S8x4x128 : Shape := ⟨3, ![8, 4, 128]⟩
abbrev S4x8x128 : Shape := ⟨3, ![4, 8, 128]⟩
abbrev S1x8x128x1024 : Shape := ⟨4, ![1, 8, 128, 1024]⟩
abbrev S2x8x128x1024 : Shape := ⟨4, ![2, 8, 128, 1024]⟩
abbrev S1x8x1024x128 : Shape := ⟨4, ![1, 8, 1024, 128]⟩
abbrev S2x8x1024x128 : Shape := ⟨4, ![2, 8, 1024, 128]⟩
abbrev S1x4x8x128 : Shape := ⟨4, ![1, 4, 8, 128]⟩
abbrev S2x4x8x128 : Shape := ⟨4, ![2, 4, 8, 128]⟩
abbrev S2x2x8192x1024 : Shape := ⟨4, ![2, 2, 8192, 1024]⟩
abbrev S1x256x1024 : Shape := ⟨3, ![1, 256, 1024]⟩
abbrev S1x1x256x1024 : Shape := ⟨4, ![1, 1, 256, 1024]⟩
abbrev S8x2112x128 : Shape := ⟨3, ![8, 2112, 128]⟩
abbrev S8x8x128 : Shape := ⟨3, ![8, 8, 128]⟩
abbrev S1x256x128 : Shape := ⟨3, ![1, 256, 128]⟩
abbrev S256x128 : Shape := ⟨2, ![256, 128]⟩
abbrev S1x1x128x1024 : Shape := ⟨4, ![1, 1, 128, 1024]⟩
abbrev S128x1024 : Shape := ⟨2, ![128, 1024]⟩
abbrev S256x1024 : Shape := ⟨2, ![256, 1024]⟩
abbrev S1x1x8x128 : Shape := ⟨4, ![1, 1, 8, 128]⟩
abbrev S8x128 : Shape := ⟨2, ![8, 128]⟩
abbrev S1x8x128 : Shape := ⟨3, ![1, 8, 128]⟩
abbrev S1x1x1024x128 : Shape := ⟨4, ![1, 1, 1024, 128]⟩
abbrev S1024x128 : Shape := ⟨2, ![1024, 128]⟩
abbrev S1x1x256x128 : Shape := ⟨4, ![1, 1, 256, 128]⟩

abbrev nBuf : Space → Nat
  | .hbm => 234
  | .vmem => 16
  | .smem => 0
  | _ => 0

abbrev hbmTy0_0 (i : Nat) : BufTy := match i % 128 with
  | 0 => ⟨S2x256x1024, .bf16⟩
  | 1 => ⟨S2x8192x8192, .bf16⟩
  | 2 => ⟨S1x2x64x64, .f32⟩
  | 3 => ⟨S1x2x64x64, .f32⟩
  | 4 => ⟨S1x2x64, .f32⟩
  | 5 => ⟨S1x2x64x64x16, .f32⟩
  | 6 => ⟨S1x2x64x64x16, .f32⟩
  | 7 => ⟨S1x2x64x16x64, .f32⟩
  | 8 => ⟨S1x2x64x16x64, .f32⟩
  | 9 => ⟨S1x1x64x64, .f32⟩
  | 10 => ⟨S64x64, .f32⟩
  | 11 => ⟨S1x1x64x64, .f32⟩
  | 12 => ⟨S64x64, .f32⟩
  | 13 => ⟨S1x1x64, .f32⟩
  | 14 => ⟨S64, .f32⟩
  | 15 => ⟨S1x1x64x64x16, .f32⟩
  | 16 => ⟨S64x64x16, .f32⟩
  | 17 => ⟨S1x1x64x64x16, .f32⟩
  | 18 => ⟨S64x64x16, .f32⟩
  | 19 => ⟨S1x1x64x16x64, .f32⟩
  | 20 => ⟨S64x16x64, .f32⟩
  | 21 => ⟨S1x1x64x16x64, .f32⟩
  | 22 => ⟨S64x16x64, .f32⟩
  | 23 => ⟨S64, .f32⟩
  | 24 => ⟨S64x1, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S_, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S64x64x1, .f32⟩
  | 54 => ⟨S64x64x16, .f32⟩
  | 55 => ⟨S64x64x16, .f32⟩
  | 56 => ⟨S64x64x1, .f32⟩
  | 57 => ⟨S64x64x16, .f32⟩
  | 58 => ⟨S64x64x16, .f32⟩
  | 59 => ⟨S64x64x16, .f32⟩
  | 60 => ⟨S64x64x1, .f32⟩
  | 61 => ⟨S64x64x16, .f32⟩
  | 62 => ⟨S64x64x16, .f32⟩
  | 63 => ⟨S64x64x1, .f32⟩
  | 64 => ⟨S64x64x16, .f32⟩
  | 65 => ⟨S64x64x16, .f32⟩
  | 66 => ⟨S64x64x16, .f32⟩
  | 67 => ⟨S8x8, .i32⟩
  | 68 => ⟨S8x8, .i32⟩
  | 69 => ⟨S_, .i32⟩
  | 70 => ⟨S8x8, .i32⟩
  | 71 => ⟨S8x8, .i32⟩
  | 72 => ⟨S8x8, .i1⟩
  | 73 => ⟨S8x8, .f32⟩
  | 74 => ⟨S8x8x64x16, .f32⟩
  | 75 => ⟨S8x8x16x64, .f32⟩
  | 76 => ⟨S8x8x16x1x64, .f32⟩
  | 77 => ⟨S1x8x1x8x1, .f32⟩
  | 78 => ⟨S8x8x16x8x64, .f32⟩
  | 79 => ⟨S8x8x16x8x64, .f32⟩
  | 80 => ⟨S8x8x16x8x64, .f32⟩
  | 81 => ⟨S8x128x512, .f32⟩
  | 82 => ⟨S8x8x64x16, .f32⟩
  | 83 => ⟨S8x8x16x64, .f32⟩
  | 84 => ⟨S8x8x16x1x64, .f32⟩
  | 85 => ⟨S1x8x1x8x1, .f32⟩
  | 86 => ⟨S8x8x16x8x64, .f32⟩
  | 87 => ⟨S8x8x16x8x64, .f32⟩
  | 88 => ⟨S8x8x16x8x64, .f32⟩
  | 89 => ⟨S8x128x512, .f32⟩
  | 90 => ⟨S8x128x1024, .f32⟩
  | 91 => ⟨S8x128x1024, .bf16⟩
  | 92 => ⟨S8x8x16x64, .f32⟩
  | 93 => ⟨S8x8x64x16, .f32⟩
  | 94 => ⟨S8x8x64x1x16, .f32⟩
  | 95 => ⟨S1x8x1x8x1, .f32⟩
  | 96 => ⟨S8x8x64x8x16, .f32⟩
  | 97 => ⟨S8x8x64x8x16, .f32⟩
  | 98 => ⟨S8x8x64x8x16, .f32⟩
  | 99 => ⟨S8x512x128, .f32⟩
  | 100 => ⟨S8x8x16x64, .f32⟩
  | 101 => ⟨S8x8x64x16, .f32⟩
  | 102 => ⟨S8x8x64x1x16, .f32⟩
  | 103 => ⟨S1x8x1x8x1, .f32⟩
  | 104 => ⟨S8x8x64x8x16, .f32⟩
  | 105 => ⟨S8x8x64x8x16, .f32⟩
  | 106 => ⟨S8x8x64x8x16, .f32⟩
  | 107 => ⟨S8x512x128, .f32⟩
  | 108 => ⟨S8x512x128, .f32⟩
  | 109 => ⟨S8x1024x128, .f32⟩
  | 110 => ⟨S8x1024x128, .bf16⟩
  | 111 => ⟨S8x4x128, .f32⟩
  | 112 => ⟨S4x8x128, .f32⟩
  | 113 => ⟨S8x4x128, .f32⟩
  | 114 => ⟨S4x8x128, .f32⟩
  | 115 => ⟨S1x1x64x64, .f32⟩
  | 116 => ⟨S64x64, .f32⟩
  | 117 => ⟨S1x1x64x64, .f32⟩
  | 118 => ⟨S64x64, .f32⟩
  | 119 => ⟨S1x1x64, .f32⟩
  | 120 => ⟨S64, .f32⟩
  | 121 => ⟨S1x1x64x64x16, .f32⟩
  | 122 => ⟨S64x64x16, .f32⟩
  | 123 => ⟨S1x1x64x64x16, .f32⟩
  | 124 => ⟨S64x64x16, .f32⟩
  | 125 => ⟨S1x1x64x16x64, .f32⟩
  | 126 => ⟨S64x16x64, .f32⟩
  | 127 => ⟨S1x1x64x16x64, .f32⟩
  | _ => ⟨S2x256x1024, .bf16⟩

abbrev hbmTy0_1 (i : Nat) : BufTy := match i % 128 with
  | 0 => ⟨S64x16x64, .f32⟩
  | 1 => ⟨S64, .f32⟩
  | 2 => ⟨S64x1, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S_, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64x1, .f32⟩
  | 32 => ⟨S64x64x16, .f32⟩
  | 33 => ⟨S64x64x16, .f32⟩
  | 34 => ⟨S64x64x1, .f32⟩
  | 35 => ⟨S64x64x16, .f32⟩
  | 36 => ⟨S64x64x16, .f32⟩
  | 37 => ⟨S64x64x16, .f32⟩
  | 38 => ⟨S64x64x1, .f32⟩
  | 39 => ⟨S64x64x16, .f32⟩
  | 40 => ⟨S64x64x16, .f32⟩
  | 41 => ⟨S64x64x1, .f32⟩
  | 42 => ⟨S64x64x16, .f32⟩
  | 43 => ⟨S64x64x16, .f32⟩
  | 44 => ⟨S64x64x16, .f32⟩
  | 45 => ⟨S8x8, .i32⟩
  | 46 => ⟨S8x8, .i32⟩
  | 47 => ⟨S_, .i32⟩
  | 48 => ⟨S8x8, .i32⟩
  | 49 => ⟨S8x8, .i32⟩
  | 50 => ⟨S8x8, .i1⟩
  | 51 => ⟨S8x8, .f32⟩
  | 52 => ⟨S8x8x64x16, .f32⟩
  | 53 => ⟨S8x8x16x64, .f32⟩
  | 54 => ⟨S8x8x16x1x64, .f32⟩
  | 55 => ⟨S1x8x1x8x1, .f32⟩
  | 56 => ⟨S8x8x16x8x64, .f32⟩
  | 57 => ⟨S8x8x16x8x64, .f32⟩
  | 58 => ⟨S8x8x16x8x64, .f32⟩
  | 59 => ⟨S8x128x512, .f32⟩
  | 60 => ⟨S8x8x64x16, .f32⟩
  | 61 => ⟨S8x8x16x64, .f32⟩
  | 62 => ⟨S8x8x16x1x64, .f32⟩
  | 63 => ⟨S1x8x1x8x1, .f32⟩
  | 64 => ⟨S8x8x16x8x64, .f32⟩
  | 65 => ⟨S8x8x16x8x64, .f32⟩
  | 66 => ⟨S8x8x16x8x64, .f32⟩
  | 67 => ⟨S8x128x512, .f32⟩
  | 68 => ⟨S8x128x1024, .f32⟩
  | 69 => ⟨S8x128x1024, .bf16⟩
  | 70 => ⟨S8x8x16x64, .f32⟩
  | 71 => ⟨S8x8x64x16, .f32⟩
  | 72 => ⟨S8x8x64x1x16, .f32⟩
  | 73 => ⟨S1x8x1x8x1, .f32⟩
  | 74 => ⟨S8x8x64x8x16, .f32⟩
  | 75 => ⟨S8x8x64x8x16, .f32⟩
  | 76 => ⟨S8x8x64x8x16, .f32⟩
  | 77 => ⟨S8x512x128, .f32⟩
  | 78 => ⟨S8x8x16x64, .f32⟩
  | 79 => ⟨S8x8x64x16, .f32⟩
  | 80 => ⟨S8x8x64x1x16, .f32⟩
  | 81 => ⟨S1x8x1x8x1, .f32⟩
  | 82 => ⟨S8x8x64x8x16, .f32⟩
  | 83 => ⟨S8x8x64x8x16, .f32⟩
  | 84 => ⟨S8x8x64x8x16, .f32⟩
  | 85 => ⟨S8x512x128, .f32⟩
  | 86 => ⟨S8x512x128, .f32⟩
  | 87 => ⟨S8x1024x128, .f32⟩
  | 88 => ⟨S8x1024x128, .bf16⟩
  | 89 => ⟨S8x4x128, .f32⟩
  | 90 => ⟨S4x8x128, .f32⟩
  | 91 => ⟨S8x4x128, .f32⟩
  | 92 => ⟨S4x8x128, .f32⟩
  | 93 => ⟨S1x8x128x1024, .bf16⟩
  | 94 => ⟨S1x8x128x1024, .bf16⟩
  | 95 => ⟨S2x8x128x1024, .bf16⟩
  | 96 => ⟨S1x8x1024x128, .bf16⟩
  | 97 => ⟨S1x8x1024x128, .bf16⟩
  | 98 => ⟨S2x8x1024x128, .bf16⟩
  | 99 => ⟨S1x4x8x128, .f32⟩
  | 100 => ⟨S1x4x8x128, .f32⟩
  | 101 => ⟨S2x4x8x128, .f32⟩
  | 102 => ⟨S1x4x8x128, .f32⟩
  | 103 => ⟨S1x4x8x128, .f32⟩
  | 104 => ⟨S2x4x8x128, .f32⟩
  | 105 => ⟨S2x2x8192x1024, .f32⟩
  | _ => ⟨S2x256x1024, .bf16⟩

abbrev hbmTy (i : Nat) : BufTy := match i / 128 with
  | 0 => hbmTy0_0 i
  | 1 => hbmTy0_1 i
  | _ => ⟨S2x256x1024, .bf16⟩

abbrev bufTy : (tb : Table) → Fin (tcTables nBuf tb) → BufTy
  | .hbm, ⟨i, _⟩ => hbmTy i
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x8x128x1024, .bf16⟩
  | .local _ .vmem, ⟨5, _⟩ => ⟨S1x8x128x1024, .bf16⟩
  | .local _ .vmem, ⟨6, _⟩ => ⟨S1x8x1024x128, .bf16⟩
  | .local _ .vmem, ⟨7, _⟩ => ⟨S1x8x1024x128, .bf16⟩
  | .local _ .vmem, ⟨8, _⟩ => ⟨S1x4x8x128, .f32⟩
  | .local _ .vmem, ⟨9, _⟩ => ⟨S1x4x8x128, .f32⟩
  | .local _ .vmem, ⟨10, _⟩ => ⟨S1x4x8x128, .f32⟩
  | .local _ .vmem, ⟨11, _⟩ => ⟨S1x4x8x128, .f32⟩
  | .local _ .vmem, ⟨12, _⟩ => ⟨S1x1x256x1024, .f32⟩
  | .local _ .vmem, ⟨13, _⟩ => ⟨S1x1x256x1024, .f32⟩
  | .local _ .vmem, ⟨14, _⟩ => ⟨S8x2112x128, .f32⟩
  | .local _ .vmem, ⟨15, _⟩ => ⟨S8x8x128, .f32⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_c : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_cst_1 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_cst_2 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_c_3 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 33], ![false, false, false]⟩

@[reducible] def k0_t1_loop : Scf.Loop 32 :=
  let c0_i32_52 : BitVec 32 := 0#32
  let c256_i32 : BitVec 32 := 256#32
  let v41 : BitVec 32 := Scalar.addi c0_i32_52 c256_i32
  let c1_i32_53 : BitVec 32 := 1#32
  ⟨c0_i32_52, v41, c1_i32_53⟩
def k0_off1 (i : grid0.Coords) (k0_t1 : Fin k0_t1_loop.trips) : Fin 3 → Nat :=
  let c0_82 : Index := 0#32
  let arg0 : BitVec 32 := BitVec.ofNat 32 (i 0).val
  let c0_i32_81 : BitVec 32 := 0#32
  let v70 : BitVec 1 := Scalar.cmpi .eq arg0 c0_i32_81
  let c0_i32_52 : BitVec 32 := 0#32
  let c1_i32_53 : BitVec 32 := 1#32
  let arg12 : BitVec 32 := Scf.iv c0_i32_52 c1_i32_53 k0_t1
  let c255_i32 : BitVec 32 := 255#32
  let v71 : BitVec 32 := Scalar.subi c255_i32 arg12
  let v72 : BitVec 32 := Scalar.select v70 arg12 v71
  let v76 : Index := Scalar.indexCast v72
  let c0_83 : Index := 0#32
  ![0, v76.toNat, 0]
def k0_off2 (i : grid0.Coords) (k0_t1 : Fin k0_t1_loop.trips) : Fin 3 → Nat :=
  let c4_84 : Index := 4#32
  let arg0 : BitVec 32 := BitVec.ofNat 32 (i 0).val
  let c0_i32_81 : BitVec 32 := 0#32
  let v70 : BitVec 1 := Scalar.cmpi .eq arg0 c0_i32_81
  let c0_i32_52 : BitVec 32 := 0#32
  let c1_i32_53 : BitVec 32 := 1#32
  let arg12 : BitVec 32 := Scf.iv c0_i32_52 c1_i32_53 k0_t1
  let c255_i32 : BitVec 32 := 255#32
  let v71 : BitVec 32 := Scalar.subi c255_i32 arg12
  let v72 : BitVec 32 := Scalar.select v70 arg12 v71
  let v83 : Index := Scalar.indexCast v72
  let c0_85 : Index := 0#32
  ![4, v83.toNat, 0]
def k0_off3 (i : grid0.Coords) (k0_t1 : Fin k0_t1_loop.trips) : Fin 3 → Nat :=
  let c1_90 : Index := 1#32
  let arg0 : BitVec 32 := BitVec.ofNat 32 (i 0).val
  let c0_i32_81 : BitVec 32 := 0#32
  let v70 : BitVec 1 := Scalar.cmpi .eq arg0 c0_i32_81
  let c0_i32_52 : BitVec 32 := 0#32
  let c1_i32_53 : BitVec 32 := 1#32
  let arg12 : BitVec 32 := Scf.iv c0_i32_52 c1_i32_53 k0_t1
  let c255_i32 : BitVec 32 := 255#32
  let v71 : BitVec 32 := Scalar.subi c255_i32 arg12
  let v72 : BitVec 32 := Scalar.select v70 arg12 v71
  let v98 : Index := Scalar.indexCast v72
  let c0_91 : Index := 0#32
  ![1, v98.toNat, 0]
def k0_off4 (i : grid0.Coords) (k0_t1 : Fin k0_t1_loop.trips) : Fin 3 → Nat :=
  let c5_92 : Index := 5#32
  let arg0 : BitVec 32 := BitVec.ofNat 32 (i 0).val
  let c0_i32_81 : BitVec 32 := 0#32
  let v70 : BitVec 1 := Scalar.cmpi .eq arg0 c0_i32_81
  let c0_i32_52 : BitVec 32 := 0#32
  let c1_i32_53 : BitVec 32 := 1#32
  let arg12 : BitVec 32 := Scf.iv c0_i32_52 c1_i32_53 k0_t1
  let c255_i32 : BitVec 32 := 255#32
  let v71 : BitVec 32 := Scalar.subi c255_i32 arg12
  let v72 : BitVec 32 := Scalar.select v70 arg12 v71
  let v105 : Index := Scalar.indexCast v72
  let c0_93 : Index := 0#32
  ![5, v105.toNat, 0]
def k0_off5 (i : grid0.Coords) (k0_t1 : Fin k0_t1_loop.trips) : Fin 3 → Nat :=
  let c2_98 : Index := 2#32
  let arg0 : BitVec 32 := BitVec.ofNat 32 (i 0).val
  let c0_i32_81 : BitVec 32 := 0#32
  let v70 : BitVec 1 := Scalar.cmpi .eq arg0 c0_i32_81
  let c0_i32_52 : BitVec 32 := 0#32
  let c1_i32_53 : BitVec 32 := 1#32
  let arg12 : BitVec 32 := Scf.iv c0_i32_52 c1_i32_53 k0_t1
  let c255_i32 : BitVec 32 := 255#32
  let v71 : BitVec 32 := Scalar.subi c255_i32 arg12
  let v72 : BitVec 32 := Scalar.select v70 arg12 v71
  let v120 : Index := Scalar.indexCast v72
  let c0_99 : Index := 0#32
  ![2, v120.toNat, 0]
def k0_off6 (i : grid0.Coords) (k0_t1 : Fin k0_t1_loop.trips) : Fin 3 → Nat :=
  let c6_100 : Index := 6#32
  let arg0 : BitVec 32 := BitVec.ofNat 32 (i 0).val
  let c0_i32_81 : BitVec 32 := 0#32
  let v70 : BitVec 1 := Scalar.cmpi .eq arg0 c0_i32_81
  let c0_i32_52 : BitVec 32 := 0#32
  let c1_i32_53 : BitVec 32 := 1#32
  let arg12 : BitVec 32 := Scf.iv c0_i32_52 c1_i32_53 k0_t1
  let c255_i32 : BitVec 32 := 255#32
  let v71 : BitVec 32 := Scalar.subi c255_i32 arg12
  let v72 : BitVec 32 := Scalar.select v70 arg12 v71
  let v127 : Index := Scalar.indexCast v72
  let c0_101 : Index := 0#32
  ![6, v127.toNat, 0]
def k0_off7 (i : grid0.Coords) (k0_t1 : Fin k0_t1_loop.trips) : Fin 3 → Nat :=
  let c3_106 : Index := 3#32
  let arg0 : BitVec 32 := BitVec.ofNat 32 (i 0).val
  let c0_i32_81 : BitVec 32 := 0#32
  let v70 : BitVec 1 := Scalar.cmpi .eq arg0 c0_i32_81
  let c0_i32_52 : BitVec 32 := 0#32
  let c1_i32_53 : BitVec 32 := 1#32
  let arg12 : BitVec 32 := Scf.iv c0_i32_52 c1_i32_53 k0_t1
  let c255_i32 : BitVec 32 := 255#32
  let v71 : BitVec 32 := Scalar.subi c255_i32 arg12
  let v72 : BitVec 32 := Scalar.select v70 arg12 v71
  let v142 : Index := Scalar.indexCast v72
  let c0_107 : Index := 0#32
  ![3, v142.toNat, 0]
def k0_off8 (i : grid0.Coords) (k0_t1 : Fin k0_t1_loop.trips) : Fin 3 → Nat :=
  let c7_108 : Index := 7#32
  let arg0 : BitVec 32 := BitVec.ofNat 32 (i 0).val
  let c0_i32_81 : BitVec 32 := 0#32
  let v70 : BitVec 1 := Scalar.cmpi .eq arg0 c0_i32_81
  let c0_i32_52 : BitVec 32 := 0#32
  let c1_i32_53 : BitVec 32 := 1#32
  let arg12 : BitVec 32 := Scf.iv c0_i32_52 c1_i32_53 k0_t1
  let c255_i32 : BitVec 32 := 255#32
  let v71 : BitVec 32 := Scalar.subi c255_i32 arg12
  let v72 : BitVec 32 := Scalar.select v70 arg12 v71
  let v149 : Index := Scalar.indexCast v72
  let c0_109 : Index := 0#32
  ![7, v149.toNat, 0]
def k0_cond4 (i : grid0.Coords) : BitVec 1 :=
  let arg2 : BitVec 32 := BitVec.ofNat 32 (i 2).val
  let c1_i32_79 : BitVec 32 := 1#32
  let v67 : BitVec 1 := Scalar.cmpi .sge arg2 c1_i32_79
  let v68 : BitVec 32 := Scalar.extui v67
  let c0_i32_80 : BitVec 32 := 0#32
  let v69 : BitVec 1 := Scalar.cmpi .ne v68 c0_i32_80
  v69

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let v0 : BitVec 32 := Scalar.maxsi c0_i32 arg2
  let v1 : BitVec 32 := Scalar.minsi c0_i32_0 v0
  let c0_i32_1 : BitVec 32 := 0#32
  let v2 : BitVec 1 := Scalar.cmpi .eq arg0 c0_i32_1
  let c0_i32_2 : BitVec 32 := 0#32
  let v3 : BitVec 32 := Scalar.subi c0_i32_2 v1
  let v4 : BitVec 32 := Scalar.select v2 v1 v3
  let c0_i32_3 : BitVec 32 := 0#32
  let c0_i32_4 : BitVec 32 := 0#32
  ![arg1.toNat, v4.toNat, c0_i32_3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let v3 : BitVec 1 := Scalar.cmpi .eq arg0 c0_i32_0
  let c31_i32_1 : BitVec 32 := 31#32
  let v4 : BitVec 32 := Scalar.subi c31_i32_1 v2
  let v5 : BitVec 32 := Scalar.select v3 v2 v4
  let c0_i32_2 : BitVec 32 := 0#32
  let c0_i32_3 : BitVec 32 := 0#32
  ![arg1.toNat, v5.toNat, c0_i32_2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let v3 : BitVec 1 := Scalar.cmpi .eq arg0 c0_i32_0
  let c31_i32_1 : BitVec 32 := 31#32
  let v4 : BitVec 32 := Scalar.subi c31_i32_1 v2
  let v5 : BitVec 32 := Scalar.select v3 v2 v4
  let c0_i32_2 : BitVec 32 := 0#32
  let c0_i32_3 : BitVec 32 := 0#32
  ![arg0.toNat, arg1.toNat, v5.toNat, c0_i32_2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== S5RefIdeal.lean ====
abbrev S2x256x1024 : Shape := ⟨3, ![2, 256, 1024]⟩
abbrev S2x8192x8192 : Shape := ⟨3, ![2, 8192, 8192]⟩
abbrev S1x2x64x64 : Shape := ⟨4, ![1, 2, 64, 64]⟩
abbrev S1x2x64 : Shape := ⟨3, ![1, 2, 64]⟩
abbrev S1x2x64x64x16 : Shape := ⟨5, ![1, 2, 64, 64, 16]⟩
abbrev S1x2x64x16x64 : Shape := ⟨5, ![1, 2, 64, 16, 64]⟩
abbrev S2x8192x1024 : Shape := ⟨3, ![2, 8192, 1024]⟩
abbrev S2x8448x1024 : Shape := ⟨3, ![2, 8448, 1024]⟩
abbrev S1x2x8448x1024 : Shape := ⟨4, ![1, 2, 8448, 1024]⟩
abbrev S2x2x8448x1024 : Shape := ⟨4, ![2, 2, 8448, 1024]⟩
abbrev S2x2x8448x64x16 : Shape := ⟨5, ![2, 2, 8448, 64, 16]⟩
abbrev S2x64x64 : Shape := ⟨3, ![2, 64, 64]⟩
abbrev S2x64 : Shape := ⟨2, ![2, 64]⟩
abbrev S2x64x1 : Shape := ⟨3, ![2, 64, 1]⟩
abbrev S_ : Shape := ⟨0, ![]⟩
abbrev S2x64x64x1 : Shape := ⟨4, ![2, 64, 64, 1]⟩
abbrev S2x64x64x16 : Shape := ⟨4, ![2, 64, 64, 16]⟩
abbrev S2x64x2x8448x64 : Shape := ⟨5, ![2, 64, 2, 8448, 64]⟩
abbrev S8448x2x2x64x64 : Shape := ⟨5, ![8448, 2, 2, 64, 64]⟩
abbrev S2x2x64x64 : Shape := ⟨4, ![2, 2, 64, 64]⟩
abbrev S1x2x2x64x64 : Shape := ⟨5, ![1, 2, 2, 64, 64]⟩
abbrev S2x1x64x64 : Shape := ⟨4, ![2, 1, 64, 64]⟩
abbrev S2x64x16x64 : Shape := ⟨4, ![2, 64, 16, 64]⟩
abbrev S2x64x8448x2x16 : Shape := ⟨5, ![2, 64, 8448, 2, 16]⟩
abbrev S2x2x8192x64x16 : Shape := ⟨5, ![2, 2, 8192, 64, 16]⟩
abbrev S2x2x8192x1024 : Shape := ⟨4, ![2, 2, 8192, 1024]⟩
abbrev S1x2x8192x1024 : Shape := ⟨4, ![1, 2, 8192, 1024]⟩

abbrev nBuf : Space → Nat
  | .hbm => 153
  | .vmem => 0
  | .smem => 0
  | _ => 0

abbrev hbmTy0_0 (i : Nat) : BufTy := match i % 128 with
  | 0 => ⟨S2x256x1024, .bf16⟩
  | 1 => ⟨S2x8192x8192, .bf16⟩
  | 2 => ⟨S1x2x64x64, .f32⟩
  | 3 => ⟨S1x2x64x64, .f32⟩
  | 4 => ⟨S1x2x64, .f32⟩
  | 5 => ⟨S1x2x64x64x16, .f32⟩
  | 6 => ⟨S1x2x64x64x16, .f32⟩
  | 7 => ⟨S1x2x64x16x64, .f32⟩
  | 8 => ⟨S1x2x64x16x64, .f32⟩
  | 9 => ⟨S2x256x1024, .f32⟩
  | 10 => ⟨S2x8192x8192, .f32⟩
  | 11 => ⟨S2x8192x1024, .f32⟩
  | 12 => ⟨S2x8448x1024, .f32⟩
  | 13 => ⟨S2x256x1024, .f32⟩
  | 14 => ⟨S2x8192x1024, .f32⟩
  | 15 => ⟨S2x8448x1024, .f32⟩
  | 16 => ⟨S1x2x8448x1024, .f32⟩
  | 17 => ⟨S1x2x8448x1024, .f32⟩
  | 18 => ⟨S2x2x8448x1024, .f32⟩
  | 19 => ⟨S2x2x8448x64x16, .f32⟩
  | 20 => ⟨S2x64x64, .f32⟩
  | 21 => ⟨S2x64x64, .f32⟩
  | 22 => ⟨S2x64, .f32⟩
  | 23 => ⟨S2x64, .f32⟩
  | 24 => ⟨S2x64x1, .f32⟩
  | 25 => ⟨S2x64x64, .f32⟩
  | 26 => ⟨S2x64x64, .f32⟩
  | 27 => ⟨S2x64x64, .f32⟩
  | 28 => ⟨S2x64x64, .f32⟩
  | 29 => ⟨S2x64x64, .f32⟩
  | 30 => ⟨S2x64x64, .f32⟩
  | 31 => ⟨S2x64x64, .f32⟩
  | 32 => ⟨S2x64x64, .f32⟩
  | 33 => ⟨S2x64x64, .f32⟩
  | 34 => ⟨S2x64x64, .f32⟩
  | 35 => ⟨S2x64x64, .f32⟩
  | 36 => ⟨S2x64x64, .f32⟩
  | 37 => ⟨S2x64x64, .f32⟩
  | 38 => ⟨S2x64x64, .f32⟩
  | 39 => ⟨S_, .f32⟩
  | 40 => ⟨S2x64x64, .f32⟩
  | 41 => ⟨S2x64x64, .f32⟩
  | 42 => ⟨S2x64x64, .f32⟩
  | 43 => ⟨S2x64x64, .f32⟩
  | 44 => ⟨S2x64x64, .f32⟩
  | 45 => ⟨S2x64x64, .f32⟩
  | 46 => ⟨S2x64x64, .f32⟩
  | 47 => ⟨S_, .f32⟩
  | 48 => ⟨S2x64x64, .f32⟩
  | 49 => ⟨S2x64x64, .f32⟩
  | 50 => ⟨S2x64x64, .f32⟩
  | 51 => ⟨S2x64x64, .f32⟩
  | 52 => ⟨S2x64x64, .f32⟩
  | 53 => ⟨S2x64x64x1, .f32⟩
  | 54 => ⟨S2x64x64x16, .f32⟩
  | 55 => ⟨S2x64x64x16, .f32⟩
  | 56 => ⟨S2x64x64x16, .f32⟩
  | 57 => ⟨S2x64x64x1, .f32⟩
  | 58 => ⟨S2x64x64x16, .f32⟩
  | 59 => ⟨S2x64x64x16, .f32⟩
  | 60 => ⟨S2x64x64x16, .f32⟩
  | 61 => ⟨S2x64x64x16, .f32⟩
  | 62 => ⟨S2x64x64x1, .f32⟩
  | 63 => ⟨S2x64x64x16, .f32⟩
  | 64 => ⟨S2x64x64x16, .f32⟩
  | 65 => ⟨S2x64x64x16, .f32⟩
  | 66 => ⟨S2x64x64x1, .f32⟩
  | 67 => ⟨S2x64x64x16, .f32⟩
  | 68 => ⟨S2x64x64x16, .f32⟩
  | 69 => ⟨S2x64x64x16, .f32⟩
  | 70 => ⟨S2x64x64x16, .f32⟩
  | 71 => ⟨S2x64x2x8448x64, .f32⟩
  | 72 => ⟨S8448x2x2x64x64, .f32⟩
  | 73 => ⟨S2x64x2x8448x64, .f32⟩
  | 74 => ⟨S8448x2x2x64x64, .f32⟩
  | 75 => ⟨S_, .f32⟩
  | 76 => ⟨S2x2x64x64, .f32⟩
  | 77 => ⟨S_, .f32⟩
  | 78 => ⟨S8448x2x2x64x64, .f32⟩
  | 79 => ⟨S_, .f32⟩
  | 80 => ⟨S8448x2x2x64x64, .f32⟩
  | 81 => ⟨S_, .i32⟩
  | 82 => ⟨S8448x2x2x64x64, .f32⟩
  | 83 => ⟨S8448x2x2x64x64, .f32⟩
  | 84 => ⟨S2x64x64, .f32⟩
  | 85 => ⟨S2x64x64, .f32⟩
  | 86 => ⟨S_, .i32⟩
  | 87 => ⟨S2x2x64x64, .f32⟩
  | 88 => ⟨S2x2x64x64, .f32⟩
  | 89 => ⟨S8448x2x2x64x64, .f32⟩
  | 90 => ⟨S8448x2x2x64x64, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S1x2x2x64x64, .f32⟩
  | 98 => ⟨S2x2x64x64, .f32⟩
  | 99 => ⟨S_, .i32⟩
  | 100 => ⟨S_, .i32⟩
  | 101 => ⟨S_, .i32⟩
  | 102 => ⟨S_, .i32⟩
  | 103 => ⟨S1x2x2x64x64, .f32⟩
  | 104 => ⟨S2x2x64x64, .f32⟩
  | 105 => ⟨S2x1x64x64, .f32⟩
  | 106 => ⟨S2x2x64x64, .f32⟩
  | 107 => ⟨S2x2x64x64, .f32⟩
  | 108 => ⟨S2x1x64x64, .f32⟩
  | 109 => ⟨S2x2x64x64, .f32⟩
  | 110 => ⟨S2x2x64x64, .f32⟩
  | 111 => ⟨S2x2x64x64, .f32⟩
  | 112 => ⟨S2x2x64x64, .f32⟩
  | 113 => ⟨S2x1x64x64, .f32⟩
  | 114 => ⟨S2x2x64x64, .f32⟩
  | 115 => ⟨S2x2x64x64, .f32⟩
  | 116 => ⟨S2x1x64x64, .f32⟩
  | 117 => ⟨S2x2x64x64, .f32⟩
  | 118 => ⟨S2x2x64x64, .f32⟩
  | 119 => ⟨S2x2x64x64, .f32⟩
  | 120 => ⟨S2x2x64x64, .f32⟩
  | 121 => ⟨S1x2x2x64x64, .f32⟩
  | 122 => ⟨S_, .i32⟩
  | 123 => ⟨S_, .i32⟩
  | 124 => ⟨S_, .i32⟩
  | 125 => ⟨S_, .i32⟩
  | 126 => ⟨S8448x2x2x64x64, .f32⟩
  | 127 => ⟨S1x2x2x64x64, .f32⟩
  | _ => ⟨S2x256x1024, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S8448x2x2x64x64, .f32⟩
  | 5 => ⟨S_, .i32⟩
  | 6 => ⟨S_, .i32⟩
  | 7 => ⟨S2x64x16x64, .f32⟩
  | 8 => ⟨S2x64x8448x2x16, .f32⟩
  | 9 => ⟨S2x2x8448x64x16, .f32⟩
  | 10 => ⟨S2x64x16x64, .f32⟩
  | 11 => ⟨S2x64x16x64, .f32⟩
  | 12 => ⟨S2x64x8448x2x16, .f32⟩
  | 13 => ⟨S2x2x8448x64x16, .f32⟩
  | 14 => ⟨S2x2x8448x64x16, .f32⟩
  | 15 => ⟨S2x2x8192x64x16, .f32⟩
  | 16 => ⟨S2x2x8192x1024, .f32⟩
  | 17 => ⟨S1x2x8192x1024, .f32⟩
  | 18 => ⟨S2x8192x1024, .f32⟩
  | 19 => ⟨S1x2x8192x1024, .f32⟩
  | 20 => ⟨S1x2x8192x1024, .f32⟩
  | 21 => ⟨S2x8192x1024, .f32⟩
  | 22 => ⟨S1x2x8192x1024, .f32⟩
  | 23 => ⟨S1x2x8192x1024, .f32⟩
  | 24 => ⟨S2x2x8192x1024, .f32⟩
  | _ => ⟨S2x256x1024, .bf16⟩

abbrev hbmTy (i : Nat) : BufTy := match i / 128 with
  | 0 => hbmTy0_0 i
  | 1 => hbmTy0_1 i
  | _ => ⟨S2x256x1024, .bf16⟩

abbrev bufTy : (tb : Table) → Fin (tcTables nBuf tb) → BufTy
  | .hbm, ⟨i, _⟩ => hbmTy i
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_1 : Ref sig .tc := ⟨.hbm, 75, rfl⟩
abbrev main_v64 : Ref sig .tc := ⟨.hbm, 76, rfl⟩
abbrev main_cst_2 : Ref sig .tc := ⟨.hbm, 77, rfl⟩
abbrev main_v65 : Ref sig .tc := ⟨.hbm, 78, rfl⟩
abbrev main_cst_3 : Ref sig .tc := ⟨.hbm, 79, rfl⟩
abbrev main_v66 : Ref sig .tc := ⟨.hbm, 80, rfl⟩
abbrev main_c : Ref sig .tc := ⟨.hbm, 81, rfl⟩
abbrev main_v67_0 : Ref sig .tc := ⟨.hbm, 82, rfl⟩
abbrev main_v67_1 : Ref sig .tc := ⟨.hbm, 83, rfl⟩
abbrev main_v67_2 : Ref sig .tc := ⟨.hbm, 84, rfl⟩
abbrev main_v67_3 : Ref sig .tc := ⟨.hbm, 85, rfl⟩
abbrev main_v67_4 : Ref sig .tc := ⟨.hbm, 86, rfl⟩
abbrev main_v67_5 : Ref sig .tc := ⟨.hbm, 87, rfl⟩
abbrev main_v67_6 : Ref sig .tc := ⟨.hbm, 88, rfl⟩
abbrev main_v67_7 : Ref sig .tc := ⟨.hbm, 89, rfl⟩
abbrev main_v67_8 : Ref sig .tc := ⟨.hbm, 90, rfl⟩
abbrev main_while0c_c_12 : Ref sig .tc := ⟨.hbm, 91, rfl⟩
abbrev main_while0c_v86 : Ref sig .tc := ⟨.hbm, 92, rfl⟩
abbrev main_while0b_call0_c : Ref sig .tc := ⟨.hbm, 93, rfl⟩
abbrev main_while0b_call0_c_0 : Ref sig .tc := ⟨.hbm, 94, rfl⟩
abbrev main_while0b_call0_c_1 : Ref sig .tc := ⟨.hbm, 95, rfl⟩
abbrev main_while0b_call0_c_2 : Ref sig .tc := ⟨.hbm, 96, rfl⟩
abbrev main_while0b_call0_v0 : Ref sig .tc := ⟨.hbm, 97, rfl⟩
abbrev main_while0b_v86 : Ref sig .tc := ⟨.hbm, 98, rfl⟩
abbrev main_while0b_call1_c : Ref sig .tc := ⟨.hbm, 99, rfl⟩
abbrev main_while0b_call1_c_0 : Ref sig .tc := ⟨.hbm, 100, rfl⟩
abbrev main_while0b_call1_c_1 : Ref sig .tc := ⟨.hbm, 101, rfl⟩
abbrev main_while0b_call1_c_2 : Ref sig .tc := ⟨.hbm, 102, rfl⟩
abbrev main_while0b_call1_v0 : Ref sig .tc := ⟨.hbm, 103, rfl⟩
abbrev main_while0b_v87 : Ref sig .tc := ⟨.hbm, 104, rfl⟩
abbrev main_while0b_v88 : Ref sig .tc := ⟨.hbm, 105, rfl⟩
abbrev main_while0b_v89 : Ref sig .tc := ⟨.hbm, 106, rfl⟩
abbrev main_while0b_v90 : Ref sig .tc := ⟨.hbm, 107, rfl⟩
abbrev main_while0b_v91 : Ref sig .tc := ⟨.hbm, 108, rfl⟩
abbrev main_while0b_v92 : Ref sig .tc := ⟨.hbm, 109, rfl⟩
abbrev main_while0b_v93 : Ref sig .tc := ⟨.hbm, 110, rfl⟩
abbrev main_while0b_v94 : Ref sig .tc := ⟨.hbm, 111, rfl⟩
abbrev main_while0b_v95 : Ref sig .tc := ⟨.hbm, 112, rfl⟩
abbrev main_while0b_v96 : Ref sig .tc := ⟨.hbm, 113, rfl⟩
abbrev main_while0b_v97 : Ref sig .tc := ⟨.hbm, 114, rfl⟩
abbrev main_while0b_v98 : Ref sig .tc := ⟨.hbm, 115, rfl⟩
abbrev main_while0b_v99 : Ref sig .tc := ⟨.hbm, 116, rfl⟩
abbrev main_while0b_v100 : Ref sig .tc := ⟨.hbm, 117, rfl⟩
abbrev main_while0b_v101 : Ref sig .tc := ⟨.hbm, 118, rfl⟩
abbrev main_while0b_v102 : Ref sig .tc := ⟨.hbm, 119, rfl⟩
abbrev main_while0b_v103 : Ref sig .tc := ⟨.hbm, 120, rfl⟩
abbrev main_while0b_call2_v0 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_c_1 : Ref sig .tc := ⟨.hbm, 124, rfl⟩
abbrev main_while0b_call2_c_2 : Ref sig .tc := ⟨.hbm, 125, rfl⟩
abbrev main_while0b_v104 : Ref sig .tc := ⟨.hbm, 126, rfl⟩
abbrev main_while0b_call3_v0 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_c_1 : Ref sig .tc := ⟨.hbm, 130, rfl⟩
abbrev main_while0b_call3_c_2 : Ref sig .tc := ⟨.hbm, 131, rfl⟩
abbrev main_while0b_v105 : Ref sig .tc := ⟨.hbm, 132, rfl⟩
abbrev main_while0b_c_12 : Ref sig .tc := ⟨.hbm, 133, rfl⟩
abbrev main_while0b_v106 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩

abbrev nD : Nat := 1
abbrev τ : Topo := Topo.v7x

variable {F : FTy → Type} [FloatOps F]

abbrev main_while0_count : Scf.Loop 32 := ⟨0#32, 8448#32, 1#32⟩
-- ==== Proof.FfnVal.lean ====
module

public import proofs.«01_k».proof.Proof.Gen.FfnIdeal.Value
public import proofs.«01_k».proof.Proof.Gen.FfnRefIdeal.Read
public import Idealize.ShloMosaic.Lib.Pipeline.ValueKit
public import Idealize.ShloMosaic.Lib.Pipeline.ReadBack
public import Idealize.ShloMosaic.Lib.Pipeline.ReadBack
public import Idealize.ShloMosaic.Lib.Pipeline.ReadBack

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnRefIdeal.Read

variable (m : (ℓ : Loc nD τ sig) → Buf (Elt Ideal) ℓ)

/-- The windows' block indices at a grid point. -/
theorem idx : ∀ t : Fin cfg0.N, win0_0.index t = ![t.val / 176, t.val / 11 % 16, 0] ∧ win0_1.index t = ![0, 0]
    ∧ win0_2.index t = ![t.val / 176, 0, 0] ∧ win0_3.index t = ![t.val / 176, 0, 0] ∧ win0_4.index t = ![t.val / 176, 0, 0]
    ∧ win0_5.index t = ![0, t.val % 11] ∧ win0_6.index t = ![0, 11 + t.val % 11] ∧ win0_7.index t = ![t.val % 11, 0]
    ∧ win0_8.index t = ![0, 0] ∧ win0_9.index t = ![t.val / 176, t.val / 11 % 16, 0] :=
  (by decide +kernel : ∀ t : Fin grid0.N, _)

/-- The normalized and modulated tokens: the payload of the first scratch at a place of a tile is the reference's
    modulated input at the array index of that place. -/
theorem h_point (c : Dev nD) (t : Fin cfg0.N) (j : S512x2048.Idx) (h0 : t.val / 176 < 2) (h1 : t.val / 11 % 16 * 512 + (j 0).val < 8192) :
    k0_pay1 (iblk m c 0 t) (iblk m c 1 t) (iblk m c 2 t) (iblk m c 3 t) j
      = val_main_v22 (F := Ideal) (m ((c : Thread nD τ).loc main_arg0)) (m ((c : Thread nD τ).loc main_arg1))
          (m ((c : Thread nD τ).loc main_arg2)) (m ((c : Thread nD τ).loc main_arg3))
          (ix3 (⟨t.val / 176, h0⟩ : Fin 2) (⟨t.val / 11 % 16 * 512 + (j 0).val, h1⟩ : Fin 8192) (j 1)) := by
  pointwise [k0_pay1, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_cst_2, val_main_v16, val_main_v17, val_main_v18, val_main_v19, val_main_v20, val_main_v21, val_main_v22]
  blk_point [iblk, V, idx t]

/-- Case A's first scratch. -/
theorem s0_A (c : Dev nD) (t : Fin cfg0.N) (h0 : t.val % 11 = 0) (h1 : ¬t.val % 11 = 10) (j : S512x2048.Idx) :
    (outsAt0 m c t.val t.isLt).2.1 j = k0_pay1 (iblk m c 0 t) (iblk m c 1 t) (iblk m c 2 t) (iblk m c 3 t) j := by
  rw [outsAt0_A m c t h0 h1]; frame_out

theorem s0_B (c : Dev nD) (t : Fin cfg0.N) (h0 : ¬t.val % 11 = 0) (j : S512x2048.Idx) :
    (outsAt0 m c t.val t.isLt).2.1 j = (outsAt0 m c (t.val - 1) (Nat.lt_of_le_of_lt (Nat.sub_le _ _) t.isLt)).2.1 j := by
  by_cases h1 : t.val % 11 = 10
  · rw [outsAt0_C m c t h0 h1]; rfl
  · rw [outsAt0_B m c t h0 h1]; rfl

theorem s1_A (c : Dev nD) (t : Fin cfg0.N) (h0 : t.val % 11 = 0) (h1 : ¬t.val % 11 = 10) :
    (outsAt0 m c t.val t.isLt).2.2 = k0_pay3 (outsAt0 m c t.val t.isLt).2.1 (iblk m c 5 t) (iblk m c 6 t) (k0_pay2 (F := Ideal)) (iblk m c 7 t) := by
  rw [outsAt0_A m c t h0 h1]; frame_out

theorem s1_B (c : Dev nD) (t : Fin cfg0.N) (h0 : ¬t.val % 11 = 0) :
    (outsAt0 m c t.val t.isLt).2.2 = k0_pay3 (outsAt0 m c t.val t.isLt).2.1 (iblk m c 5 t) (iblk m c 6 t)
      (outsAt0 m c (t.val - 1) (Nat.lt_of_le_of_lt (Nat.sub_le _ _) t.isLt)).2.2 (iblk m c 7 t) := by
  by_cases h1 : t.val % 11 = 10
  · rw [outsAt0_C m c t h0 h1]; frame_out; simp only [read_unread_whole]; rfl
  · rw [outsAt0_B m c t h0 h1]; frame_out; simp only [read_unread_whole]; rfl

theorem o_C (c : Dev nD) (t : Fin cfg0.N) (h0 : ¬t.val % 11 = 0) (h1 : t.val % 11 = 10) :
    (outsAt0 m c t.val t.isLt).1 = k0_pay4 (iblk m c 0 t) (iblk m c 4 t) (outsAt0 m c t.val t.isLt).2.2 (iblk m c 8 t) := by
  rw [outsAt0_C m c t h0 h1]; frame_out

/-- The first scratch holds, at every point of a run, the run's normalized and modulated tokens. -/
theorem s0_held (c : Dev nD) : ∀ (n : ℕ) (h : n < cfg0.N) (j : S512x2048.Idx) (h0 : n / 176 < 2)
    (h1 : n / 11 % 16 * 512 + (j 0).val < 8192),
    (outsAt0 m c n h).2.1 j
      = val_main_v22 (F := Ideal) (m ((c : Thread nD τ).loc main_arg0)) (m ((c : Thread nD τ).loc main_arg1))
          (m ((c : Thread nD τ).loc main_arg2)) (m ((c : Thread nD τ).loc main_arg3))
          (ix3 (⟨n / 176, h0⟩ : Fin 2) (⟨n / 11 % 16 * 512 + (j 0).val, h1⟩ : Fin 8192) (j 1)) := by
  intro n
  induction n with
  | zero => intro h j h0 h1; exact (s0_A m c ⟨0, h⟩ rfl (by show ¬0 % 11 = 10; omega) j).trans (h_point m c ⟨0, h⟩ j h0 h1)
  | succ n ih =>
    intro h j h0 h1
    by_cases hA : (n + 1) % 11 = 0
    · exact (s0_A m c ⟨n + 1, h⟩ hA (by show ¬(n + 1) % 11 = 10; omega) j).trans (h_point m c ⟨n + 1, h⟩ j h0 h1)
    · have e0 : n / 176 = (n + 1) / 176 := by omega
      have e1 : n / 11 = (n + 1) / 11 := by omega
      refine (s0_B m c ⟨n + 1, h⟩ hA j).trans ((ih (Nat.lt_of_succ_lt h) j (by omega) (by rw [e1]; exact h1)).trans ?_)
      simp only [e0, e1]

/-- One point's step of the accumulator over any tiles: the sum so far and the products of the gated hidden values with the
    rows of the second matrix. -/
theorem pay3_at (A : FVec Ideal S512x2048 .bf16) (wa wb : FVec Ideal S2048x512 .bf16) (acc : FVec Ideal S512x2048 .f32)
    (wo : FVec Ideal S512x2048 .bf16) (j : S512x2048.Idx) :
    k0_pay3 (F := Ideal) A wa wb acc wo j = acc j + ∑ x : Fin 512,
      ((∑ d : Fin 2048, A (ix2 (j 0) d) * wa (ix2 d x)) * Ideal.logistic (∑ d : Fin 2048, A (ix2 (j 0) d) * wa (ix2 d x))
        * ∑ d : Fin 2048, A (ix2 (j 0) d) * wb (ix2 d x)) * wo (ix2 x (j 1)) := by
  pointwise [k0_pay3]

/-- The reference's gated hidden value over its modulated input. -/
theorem ref29_at (X0 : FVec Ideal S2x8192x2048 .f32) (X1 : FVec Ideal S1x2048 .f32) (X2 X3 : FVec Ideal S2x2048 .f32)
    (X5 : FVec Ideal S1x2048x11264 .f32) (b : Fin 2) (n : Fin 8192) (f : Fin 5632) (h1 : f.val < 11264) (h2 : 5632 + f.val < 11264) :
    val_main_v29 (F := Ideal) X0 X1 X2 X3 X5 (ix3 b n f)
      = (∑ d : Fin 2048, val_main_v22 (F := Ideal) X0 X1 X2 X3 (ix3 b n d) * X5 (ix3 0 d (⟨f.val, h1⟩ : Fin 11264)))
          * Ideal.logistic (∑ d : Fin 2048, val_main_v22 (F := Ideal) X0 X1 X2 X3 (ix3 b n d) * X5 (ix3 0 d (⟨f.val, h1⟩ : Fin 11264)))
          * ∑ d : Fin 2048, val_main_v22 (F := Ideal) X0 X1 X2 X3 (ix3 b n d) * X5 (ix3 0 d (⟨5632 + f.val, h2⟩ : Fin 11264)) := by
  unfold Ideal.logistic
  pointwise [val_main_v23, val_main_v25, val_main_v26, val_main_v27, val_main_call0_v0, val_main_call0_v1, val_main_call0_cst, val_main_call0_v2, val_main_call0_v3, val_main_call0_cst_0, val_main_call0_v4, val_main_call0_v5, val_main_v28, val_main_v29]

/-- The step with its tiles known as parts of the arrays: the terms are the reference's. -/
theorem pay3_ref (A : FVec Ideal S512x2048 .bf16) (wa wb : FVec Ideal S2048x512 .bf16) (acc : FVec Ideal S512x2048 .f32)
    (wo : FVec Ideal S512x2048 .bf16) (X0 : FVec Ideal S2x8192x2048 .f32) (X1 : FVec Ideal S1x2048 .f32) (X2 X3 : FVec Ideal S2x2048 .f32)
    (X5 : FVec Ideal S1x2048x11264 .f32) (X6 : FVec Ideal S1x5632x2048 .f32) (j : S512x2048.Idx) (b : Fin 2) (n : Fin 8192)
    (q : ℕ) (hq : q < 11)
    (hA : ∀ d : Fin 2048, A (ix2 (j 0) d) = val_main_v22 (F := Ideal) X0 X1 X2 X3 (ix3 b n d))
    (hwa : ∀ (d : Fin 2048) (k : Fin 512), wa (ix2 d k) = X5 (ix3 0 d (⟨q * 512 + k.val, by omega⟩ : Fin 11264)))
    (hwb : ∀ (d : Fin 2048) (k : Fin 512), wb (ix2 d k) = X5 (ix3 0 d (⟨5632 + (q * 512 + k.val), by omega⟩ : Fin 11264)))
    (hwo : ∀ (k : Fin 512) (d : Fin 2048), wo (ix2 k d) = X6 (ix3 0 (⟨q * 512 + k.val, by omega⟩ : Fin 5632) d)) :
    k0_pay3 (F := Ideal) A wa wb acc wo j = acc j + ∑ k : Fin 512,
      val_main_v29 (F := Ideal) X0 X1 X2 X3 X5 (ix3 b n (⟨q * 512 + k.val, by omega⟩ : Fin 5632))
        * X6 (ix3 0 (⟨q * 512 + k.val, by omega⟩ : Fin 5632) (j 1)) := by
  rw [pay3_at]
  refine congrArg (acc j + ·) (Finset.sum_congr rfl fun k _ => ?_)
  rw [ref29_at X0 X1 X2 X3 X5 b n _ (by show q * 512 + k.val < 11264; omega) (by show 5632 + (q * 512 + k.val) < 11264; omega)]
  refine congrArg₂ (· * ·) ?_ (hwo k (j 1))
  simp only [hA, hwa, hwb]

/-- The blocks of the weights. -/
theorem blk_wa (c : Dev nD) (t : Fin cfg0.N) (d : Fin 2048) (k : Fin 512) :
    iblk m c 5 t (ix2 d k) = m ((c : Thread nD τ).loc main_arg5) (ix3 0 d (⟨t.val % 11 * 512 + k.val, by omega⟩ : Fin 11264)) := by
  blk_point [iblk, V, idx t]

theorem blk_wb (c : Dev nD) (t : Fin cfg0.N) (d : Fin 2048) (k : Fin 512) :
    iblk m c 6 t (ix2 d k) = m ((c : Thread nD τ).loc main_arg5) (ix3 0 d (⟨5632 + (t.val % 11 * 512 + k.val), by omega⟩ : Fin 11264)) := by
  blk_point [iblk, V, idx t]

theorem blk_wo (c : Dev nD) (t : Fin cfg0.N) (k : Fin 512) (d : Fin 2048) :
    iblk m c 7 t (ix2 k d) = m ((c : Thread nD τ).loc main_arg6) (ix3 0 (⟨t.val % 11 * 512 + k.val, by omega⟩ : Fin 5632) d) := by
  blk_point [iblk, V, idx t]

/-- The reference's part of the second product that one point adds. -/
def term (c : Dev nD) (t : Fin cfg0.N) (j : S512x2048.Idx) : Ideal .f32 :=
  ∑ k : Fin 512,
    val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg5))
        (ix3 (⟨t.val / 176, by have := t.isLt; change _ < 352 at this; omega⟩ : Fin 2)
          (⟨t.val / 11 % 16 * 512 + (j 0).val, by have := (j 0).isLt; change _ < 512 at this; omega⟩ : Fin 8192)
          (⟨t.val % 11 * 512 + k.val, by omega⟩ : Fin 5632))
      * m ((c : Thread nD τ).loc main_arg6) (ix3 0 (⟨t.val % 11 * 512 + k.val, by omega⟩ : Fin 5632) (j 1))

/-- One point's step. -/
theorem step (c : Dev nD) (t : Fin cfg0.N) (acc : FVec Ideal S512x2048 .f32) (j : S512x2048.Idx) :
    k0_pay3 (F := Ideal) (outsAt0 m c t.val t.isLt).2.1 (iblk m c 5 t) (iblk m c 6 t) acc (iblk m c 7 t) j
      = acc j + term m c t j :=
  pay3_ref _ _ _ acc _ _ _ _ _ _ _ j _ _ (t.val % 11) (by omega)
    (fun d => s0_held m c t.val t.isLt (ix2 (j 0) d) _ _)
    (blk_wa m c t) (blk_wb m c t) (blk_wo m c t)

/-- The accumulator at a run's last point: the reference's second product. -/
theorem acc_last (c : Dev nD) (t : Fin cfg0.N) (hr : t.val % 11 = 11 - 1) (j : S512x2048.Idx) (h0 : t.val / 176 < 2)
    (h1 : t.val / 11 % 16 * 512 + (j 0).val < 8192) :
    (outsAt0 m c t.val t.isLt).2.2 j
      = val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg5))
          (m ((c : Thread nD τ).loc main_arg6))
          (ix3 (⟨t.val / 176, h0⟩ : Fin 2) (⟨t.val / 11 % 16 * 512 + (j 0).val, h1⟩ : Fin 8192) (j 1)) := by
  refine (Pipeline.eq_sum_fin_of_reset_step_apply_of_flush (fun n h => (outsAt0 m c n h).2.2) 11 (fun _ => (0 : EReal)) (term m c)
    (fun t h i => ?_) (fun t h i => ?_) t hr j).trans ?_
  · show (outsAt0 m c t.val t.isLt).2.2 i = 0 + term m c t i
    rw [s1_A m c t h (by omega), step]
    refine congrArg (· + _) ?_
    pointwise [k0_pay2]
  · show (outsAt0 m c t.val t.isLt).2.2 i = _ + term m c t i
    rw [s1_B m c t h, step]
  · rw [zero_add]
    pointwise [val_main_v30, val_main_v24]
    refine Fin.sum_mul_add_congr fun s k hl => ?_
    have e0 : (11 * (t.val / 11) + s.val) / 176 = t.val / 176 := by omega
    have e1 : (11 * (t.val / 11) + s.val) / 11 = t.val / 11 := by omega
    have e2 : (11 * (t.val / 11) + s.val) % 11 = s.val := by omega
    simp only [e0, e1, e2]

/-- The last point's payload with its tiles known as parts of the arrays: the reference's result. -/
theorem pay4_ref (x : FVec Ideal S1x512x2048 .f32) (g : FVec Ideal S1x1x2048 .f32) (acc : FVec Ideal S512x2048 .f32)
    (nf : FVec Ideal S1x2048 .f32) (X0 : FVec Ideal S2x8192x2048 .f32) (X1 : FVec Ideal S1x2048 .f32) (X2 X3 X4 : FVec Ideal S2x2048 .f32)
    (X5 : FVec Ideal S1x2048x11264 .f32) (X6 : FVec Ideal S1x5632x2048 .f32) (X7 : FVec Ideal S2048 .f32) (j : S1x512x2048.Idx)
    (b : Fin 2) (n : Fin 8192)
    (hxj : x j = X0 (ix3 b n (j 2))) (hx : ∀ d : Fin 2048, x (ix3 0 (j 1) d) = X0 (ix3 b n d)) (hg : ∀ d : Fin 2048, g (ix3 0 0 d) = X4 (ix2 b d))
    (ha : ∀ d : Fin 2048, acc (ix2 (j 1) d) = val_main_v30 (F := Ideal) X0 X1 X2 X3 X5 X6 (ix3 b n d))
    (hn : ∀ d : Fin 2048, nf (ix2 0 d) = X7 (ix1 d)) :
    k0_pay4 (F := Ideal) x g acc nf j = val_main_v46 (F := Ideal) X0 X1 X2 X3 X4 X5 X6 X7 (ix3 b n (j 2)) := by
  pointwise [k0_pay4, val_main_v0, val_main_v31, val_main_v32, val_main_v33, val_main_v34, val_main_cst_3, val_main_v35, val_main_v36, val_main_cst_4, val_main_v37, val_main_v38, val_main_cst_5, val_main_v39, val_main_v40, val_main_v41, val_main_v42, val_main_v43, val_main_v44, val_main_v45, val_main_v46]
  simp only [hx, hg, ha, hn]
  rw [hxj, hg (j 2), ha (j 2), hn (j 2)]

/-- The output block at a run's last point is the reference's. -/
theorem point (c : Dev nD) (t : Fin cfg0.N) (hr : t.val % 11 = 10) (j : S1x512x2048.Idx) (h0 : t.val / 176 < 2)
    (h1 : t.val / 11 % 16 * 512 + (j 1).val < 8192) :
    (outsAt0 m c t.val t.isLt).1 j
      = val_main_v46 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (ix3 (⟨t.val / 176, h0⟩ : Fin 2) (⟨t.val / 11 % 16 * 512 + (j 1).val, h1⟩ : Fin 8192) (j 2)) := by
  rw [o_C m c t (by omega) hr]
  refine pay4_ref _ _ _ _ _ _ _ _ _ _ _ _ j _ _ ?_ (fun d => ?_) (fun d => ?_) (fun d => ?_) (fun d => ?_)
  · blk_point [iblk, V, idx t]
  · blk_point [iblk, V, idx t]
  · blk_point [iblk, V, idx t]
  · exact acc_last m c t hr (ix2 (j 1) d) h0 h1
  · blk_point [iblk, V, idx t]

/-- The output array after the run is the reference's result. -/
theorem final (c : Dev nD) : (dats m 0 c).arrAt 9 cfg0.N
    = val_main_v46 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (dats m 0 c).arrAt_eq_of_covers 9 _ (by decide +kernel) fun t hf y => ?_
  have hr := (flush0_9 t).mp hf
  have hN : t.val < 352 := t.isLt
  have hy : (y 1).val < 512 := (y 1).isLt
  rw [after0_9]
  refine (point m c t hr y (by omega) (by omega)).trans (congrArg _ ?_)
  have hy0 : (y 0).val < 1 := (y 0).isLt
  have e0 : ((((cfg0.win 9).blk t).view.emb y) 0).val = t.val / 176 := by blk_simp [idx t]
  have e1 : ((((cfg0.win 9).blk t).view.emb y) 1).val = t.val / 11 % 16 * 512 + (y 1).val := by blk_simp [idx t]
  have e2 : ((((cfg0.win 9).blk t).view.emb y) 2).val = (y 2).val := by blk_simp [idx t]
  funext a
  match a with
  | ⟨0, _⟩ => exact Fin.ext e0.symm
  | ⟨1, _⟩ => exact Fin.ext e1.symm
  | ⟨2, _⟩ => exact Fin.ext e2.symm

end Cert.FfnIdeal.Value

end
-- ==== Proof.Pos.lean ====
module

public import Idealize.ShloMosaic.Lib.Pipeline.ValueKit

@[expose] public section

set_option maxRecDepth 16384

noncomputable section

/-! The latent grid's position embedding over the extended reals, in closed form. -/

namespace Cert.Pos

open Idealize.ShloMosaic

/-- The angular frequency of column `j`: `10000 ^ (-j / 512)`. -/
def freq (j : ℕ) : EReal :=
  Ideal.pow (Ideal.ofBits FTy.f32 1176256512#32)
    (Ideal.div (-(FloatOps.sitofp (F := Ideal) FTy.f32 (BitVec.ofNat 32 j))) (Ideal.ofBits FTy.f32 1140850688#32))

/-- Half of an embedding row: the sines of coordinate `r` at the 512 frequencies, then its cosines. -/
def half (r j : ℕ) : EReal :=
  if j < 512 then Ideal.sin (FloatOps.sitofp (F := Ideal) FTy.f32 (BitVec.ofNat 32 r) * freq j)
  else Ideal.cos (FloatOps.sitofp (F := Ideal) FTy.f32 (BitVec.ofNat 32 r) * freq (j - 512))

/-- The embedding of token `n` at column `d`: the half row of its grid row `n / 64`, then that of its grid column
    `n % 64`. -/
def emb (n d : ℕ) : EReal := if d < 1024 then half (n / 64) d else half (n % 64) (d - 1024)

/-- The four-way form of `emb`. -/
theorem emb_eq (n d : ℕ) : emb n d
    = if d < 512 then Ideal.sin (FloatOps.sitofp (F := Ideal) FTy.f32 (BitVec.ofNat 32 (n / 64)) * freq d)
      else if d - 512 < 512 then Ideal.cos (FloatOps.sitofp (F := Ideal) FTy.f32 (BitVec.ofNat 32 (n / 64)) * freq (d - 512))
      else if d - 512 - 512 < 512 then Ideal.sin (FloatOps.sitofp (F := Ideal) FTy.f32 (BitVec.ofNat 32 (n % 64)) * freq (d - 512 - 512))
      else Ideal.cos (FloatOps.sitofp (F := Ideal) FTy.f32 (BitVec.ofNat 32 (n % 64)) * freq (d - 512 - 512 - 512)) := by
  unfold emb half
  by_cases h1 : d < 512
  · rw [if_pos (show d < 1024 by omega), if_pos h1, if_pos h1]
  · by_cases h2 : d - 512 < 512
    · rw [if_pos (show d < 1024 by omega), if_neg h1, if_neg h1, if_pos h2]
    · rw [if_neg (show ¬d < 1024 by omega), if_neg h1, if_neg h2, show d - 512 - 512 = d - 1024 by omega]

end Cert.Pos

end
-- ==== Proof.InProjVal.lean ====
module

public import proofs.«01_k».proof.Proof.Gen.InProjIdeal.Value
public import proofs.«01_k».proof.Proof.Gen.InProjRefIdeal.Read
public import proofs.«01_k».proof.Proof.Pos
public import Idealize.ShloMosaic.Lib.Pipeline.ValueKit
public import Idealize.ShloMosaic.Lib.Pipeline.ReadBack

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)
open Cert.InProjRefIdeal.Read

variable (m : (ℓ : Loc nD τ sig) → Buf (Elt Ideal) ℓ)

/-- The windows' block indices at a grid point. -/
theorem idx : ∀ t : Fin cfg0.N, win0_0.index t = ![t.val / 128, t.val / 8 % 16, 0] ∧ win0_1.index t = ![t.val / 8 % 16, 0]
    ∧ win0_2.index t = ![0, 0] ∧ win0_3.index t = ![0, 0] ∧ win0_4.index t = ![t.val / 128, 0, 0] ∧ win0_5.index t = ![t.val / 128, 0, 0]
    ∧ win0_6.index t = ![0, t.val % 8] ∧ win0_7.index t = ![t.val / 128, t.val / 8 % 16, t.val % 8] :=
  (by decide +kernel : ∀ t : Fin grid0.N, _)

/-- The reference's tokens with their position at an index. -/
theorem ref30_at (X0 : FVec Ideal S2x8192x2048 .f32) (j : S2x8192x2048.Idx) :
    val_main_v30 (F := Ideal) X0 j = X0 j + Cert.Pos.emb (j 1).val (j 2).val := by
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rw [Cert.Pos.emb_eq]
  rfl

/-- The reference's modulated tokens over its tokens with their position. -/
theorem ref52_at (X0 : FVec Ideal S2x8192x2048 .f32) (X1 : FVec Ideal S1x2048 .f32) (X2 X3 : FVec Ideal S2x2048 .f32)
    (b : Fin 2) (n : Fin 8192) (d : Fin 2048) :
    val_main_v52 (F := Ideal) X0 X1 X2 X3 (ix3 b n d)
      = val_main_v30 (F := Ideal) X0 (ix3 b n d)
          * Ideal.rsqrt (Ideal.div (∑ x : Fin 2048, val_main_v30 (F := Ideal) X0 (ix3 b n x) * val_main_v30 (F := Ideal) X0 (ix3 b n x))
              (Ideal.ofBits FTy.f32 1157627904#32) + Ideal.ofBits FTy.f32 897988541#32)
          * X1 (ix2 0 d) * (1 + X3 (ix2 b d)) + X2 (ix2 b d) := by
  pointwise [val_main_v31, val_main_v32, val_main_cst_1, val_main_v33, val_main_v34, val_main_cst_2, val_main_v35, val_main_v36, val_main_cst_3, val_main_v37, val_main_v38, val_main_v39, val_main_v40, val_main_v41, val_main_v42, val_main_v43, val_main_v44, val_main_v45, val_main_cst_4, val_main_v46, val_main_v47, val_main_v48, val_main_v49, val_main_v50, val_main_v51, val_main_v52]

/-- The row table as the call finds it. -/
theorem tab_row (c : Dev nD) (r : Fin 128) (j : Fin 1024) :
    V m c main_v20 (ix2 r j) = Cert.Pos.half r.val j.val := by
  entry_read; pointwise
  rfl

/-- The column table as the call finds it. -/
theorem tab_col (c : Dev nD) (r : Fin 64) (j : Fin 1024) :
    V m c main_v23 (ix2 r j) = Cert.Pos.half r.val j.val := by
  entry_read; pointwise
  rfl

/-- A block of the row table. -/
theorem blk_row (c : Dev nD) (t : Fin cfg0.N) (r : Fin 8) (j : Fin 1024) :
    iblk m c 1 t (ix2 r j) = Cert.Pos.half (t.val / 8 % 16 * 8 + r.val) j.val := by
  refine Eq.trans ?_ (tab_row m c ⟨t.val / 8 % 16 * 8 + r.val, by omega⟩ j)
  blk_ext [iblk, idx t]

/-- The column table's block. -/
theorem blk_col (c : Dev nD) (t : Fin cfg0.N) (r : Fin 64) (j : Fin 1024) :
    iblk m c 2 t (ix2 r j) = Cert.Pos.half r.val j.val := by
  refine Eq.trans ?_ (tab_col m c r j)
  blk_ext [iblk, idx t]

/-- The position table's left half. -/
theorem emb_lo (q : ℕ) (r : Fin 512) (x : Fin 1024) :
    Cert.Pos.emb (q * 512 + r.val) x.val = Cert.Pos.half (q * 8 + r.val / 64) x.val := by
  have e : (q * 512 + r.val) / 64 = q * 8 + r.val / 64 := by omega
  rw [Cert.Pos.emb, if_pos x.isLt, e]

/-- The position table's right half. -/
theorem emb_hi (q : ℕ) (r : Fin 512) (x : Fin 1024) :
    Cert.Pos.emb (q * 512 + r.val) (1024 + x.val) = Cert.Pos.half (r.val % 64) x.val := by
  have e : (q * 512 + r.val) % 64 = r.val % 64 := by omega
  rw [Cert.Pos.emb, if_neg (by omega), e, Nat.add_sub_cancel_left]

/-- A sum over the model's width in its two halves. -/
theorem sum_halves (g : Fin 2048 → EReal) :
    ∑ x : Fin 2048, g x = (∑ x : Fin 1024, g ⟨x.val, by omega⟩) + ∑ x : Fin 1024, g ⟨1024 + x.val, by omega⟩ :=
  Fin.sum_univ_add (a := 1024) (b := 1024) g

/-- The first payload at an index, the two position blocks given in closed form. -/
theorem pay_at (A0 : FVec Ideal S1x512x2048 .f32) (A1 : FVec Ideal S8x1024 .f32) (A2 : FVec Ideal S64x1024 .f32)
    (A3 : FVec Ideal S1x2048 .f32) (A4 A5 : FVec Ideal S1x1x2048 .f32) (q : ℕ)
    (h3 : ∀ (r : Fin 8) (j : Fin 1024), A1 (ix2 r j) = Cert.Pos.half (q * 8 + r.val) j.val)
    (h4 : ∀ (r : Fin 64) (j : Fin 1024), A2 (ix2 r j) = Cert.Pos.half r.val j.val) (y : S512x2048.Idx) :
    k0_pay1 (k0_pay3 (F := Ideal) A0 A1 A2 A3 A4 A5) y
      = (A0 (ix3 0 (y 0) (y 1)) + Cert.Pos.emb (q * 512 + (y 0).val) (y 1).val)
          * Ideal.rsqrt (Ideal.div (∑ x : Fin 2048, (A0 (ix3 0 (y 0) x) + Cert.Pos.emb (q * 512 + (y 0).val) x.val)
                * (A0 (ix3 0 (y 0) x) + Cert.Pos.emb (q * 512 + (y 0).val) x.val))
              (Ideal.ofBits FTy.f32 1157627904#32) + Ideal.ofBits FTy.f32 897988541#32)
          * A3 (ix2 0 (y 1)) * (1 + A5 (ix3 0 0 (y 1))) + A4 (ix3 0 0 (y 1)) := by
  have h1 : (y 0).val < 512 := (y 0).isLt
  have h2 : (y 1).val < 2048 := (y 1).isLt
  have hx : Cert.Pos.emb (q * 512 + (y 0).val) (y 1).val
      = if h : (y 1).val < 1024 then A1 (ix2 (⟨(y 0).val / 64, by omega⟩ : Fin 8) (⟨(y 1).val, h⟩ : Fin 1024))
        else A2 (ix2 (⟨(y 0).val % 64, by omega⟩ : Fin 64) (⟨(y 1).val - 1024, by omega⟩ : Fin 1024)) := by
    split
    · next h => rw [h3]; exact emb_lo q ⟨(y 0).val, h1⟩ ⟨(y 1).val, h⟩
    · next h =>
      rw [h4]
      have := emb_hi q ⟨(y 0).val, h1⟩ ⟨(y 1).val - 1024, by omega⟩
      dsimp only at this
      rw [← this, Nat.add_sub_cancel' (by omega)]
  rw [hx, sum_halves]
  have elo := fun x : Fin 1024 => (emb_lo q ⟨(y 0).val, h1⟩ x).trans (h3 ⟨(y 0).val / 64, by omega⟩ x).symm
  have ehi := fun x : Fin 1024 => (emb_hi q ⟨(y 0).val, h1⟩ x).trans (h4 ⟨(y 0).val % 64, by omega⟩ x).symm
  dsimp only at elo ehi
  simp only [elo, ehi]
  pointwise [k0_pay1, k0_pay3]

/-- The output's payload with its tiles known as parts of the arrays: the reference's result. -/
theorem pay2_ref (A : FVec Ideal S512x2048 .bf16) (w : FVec Ideal S2048x1024 .bf16) (X0 : FVec Ideal S2x8192x2048 .f32)
    (X1 : FVec Ideal S1x2048 .f32) (X2 X3 : FVec Ideal S2x2048 .f32) (X4 : FVec Ideal S1x2048x8192 .f32) (j : S1x512x1024.Idx)
    (b : Fin 2) (n : Fin 8192) (e : Fin 8192)
    (hA : ∀ d : Fin 2048, A (ix2 (j 1) d) = val_main_v52 (F := Ideal) X0 X1 X2 X3 (ix3 b n d))
    (hw : ∀ d : Fin 2048, w (ix2 d (j 2)) = X4 (ix3 0 d e)) :
    k0_pay2 (F := Ideal) A w j = val_main_v55 (F := Ideal) X0 X1 X2 X3 X4 (ix3 b n e) := by
  pointwise [k0_pay2, val_main_v53, val_main_v54, val_main_v55]
  simp only [hA, hw]

/-- The left operand of the product at a place of a tile is the reference's at the array index of that place. -/
theorem h_point (c : Dev nD) (t : Fin cfg0.N) (j : S512x2048.Idx) (h0 : t.val / 128 < 2) (h1 : t.val / 8 % 16 * 512 + (j 0).val < 8192) :
    k0_pay1 (k0_pay3 (iblk m c 0 t) (iblk m c 1 t) (iblk m c 2 t) (iblk m c 3 t) (iblk m c 4 t) (iblk m c 5 t)) j
      = val_main_v52 (F := Ideal) (m ((c : Thread nD τ).loc main_arg0)) (m ((c : Thread nD τ).loc main_arg1)) (m ((c : Thread nD τ).loc main_arg2)) (m ((c : Thread nD τ).loc main_arg3))
          (ix3 (⟨t.val / 128, h0⟩ : Fin 2) (⟨t.val / 8 % 16 * 512 + (j 0).val, h1⟩ : Fin 8192) (j 1)) := by
  rw [pay_at _ _ _ _ _ _ (t.val / 8 % 16) (blk_row m c t) (blk_col m c t), ref52_at _ _ _ _ _ _ (j 1)]
  simp only [ref30_at]
  blk_point [iblk, V, idx t]

/-- The scratch as a run's first point leaves it. -/
theorem s0_A (c : Dev nD) (t : Fin cfg0.N) (h0 : t.val % 8 = 0) :
    (outsAt0 m c t.val t.isLt).2 = k0_pay1 (k0_pay3 (iblk m c 0 t) (iblk m c 1 t) (iblk m c 2 t) (iblk m c 3 t) (iblk m c 4 t) (iblk m c 5 t)) := by
  rw [outsAt0_A m c t h0]; frame_out

/-- A run's other points leave the scratch alone. -/
theorem s0_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]; rfl

/-- The output block a point leaves, over the scratch it leaves. -/
theorem o_val (c : Dev nD) (t : Fin cfg0.N) :
    (outsAt0 m c t.val t.isLt).1 = k0_pay2 (outsAt0 m c t.val t.isLt).2 (iblk m c 6 t) := by
  by_cases h0 : t.val % 8 = 0
  · rw [outsAt0_A m c t h0]; frame_out
  · rw [outsAt0_B m c t h0]; frame_out; simp only [read_unread_whole]; rfl

/-- The scratch holds, at every point of a run, the run's rows of the product's left operand. -/
theorem s0_held (c : Dev nD) : ∀ (n : ℕ) (h : n < cfg0.N) (j : S512x2048.Idx) (h0 : n / 128 < 2)
    (h1 : n / 8 % 16 * 512 + (j 0).val < 8192),
    (outsAt0 m c n h).2 j
      = val_main_v52 (F := Ideal) (m ((c : Thread nD τ).loc main_arg0)) (m ((c : Thread nD τ).loc main_arg1)) (m ((c : Thread nD τ).loc main_arg2)) (m ((c : Thread nD τ).loc main_arg3))
          (ix3 (⟨n / 128, h0⟩ : Fin 2) (⟨n / 8 % 16 * 512 + (j 0).val, h1⟩ : Fin 8192) (j 1)) := by
  intro n
  induction n with
  | zero => intro h j h0 h1; exact (congrFun (s0_A m c ⟨0, h⟩ rfl) j).trans (h_point m c ⟨0, h⟩ j h0 h1)
  | succ n ih =>
    intro h j h0 h1
    by_cases hA : (n + 1) % 8 = 0
    · exact (congrFun (s0_A m c ⟨n + 1, h⟩ hA) j).trans (h_point m c ⟨n + 1, h⟩ j h0 h1)
    · have e0 : n / 128 = (n + 1) / 128 := by omega
      have e1 : n / 8 = (n + 1) / 8 := by omega
      refine (congrFun (s0_B m c ⟨n + 1, h⟩ hA) j).trans
        ((ih (Nat.lt_of_succ_lt h) j (by omega) (by rw [e1]; exact h1)).trans ?_)
      simp only [e0, e1]

/-- The output block at a place of a tile is the reference's result at the array index of that place. -/
theorem point (c : Dev nD) (t : Fin cfg0.N) (j : S1x512x1024.Idx) (h0 : t.val / 128 < 2)
    (h1 : t.val / 8 % 16 * 512 + (j 1).val < 8192) (h2 : t.val % 8 * 1024 + (j 2).val < 8192) :
    (outsAt0 m c t.val t.isLt).1 j
      = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (ix3 (⟨t.val / 128, h0⟩ : Fin 2) (⟨t.val / 8 % 16 * 512 + (j 1).val, h1⟩ : Fin 8192) (⟨t.val % 8 * 1024 + (j 2).val, h2⟩ : Fin 8192)) := by
  rw [o_val]
  refine pay2_ref _ _ _ _ _ _ _ j _ _ _ (fun d => s0_held m c t.val t.isLt (ix2 (j 1) d) h0 h1) (fun d => ?_) ; blk_point [iblk, V, idx t]

/-- The output array after the run is the reference's result. -/
theorem final (c : Dev nD) : (dats m 0 c).arrAt 7 cfg0.N
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have hN : t.val < 256 := t.isLt
  have hy0 : (y 0).val < 1 := (y 0).isLt
  have hy : (y 1).val < 512 := (y 1).isLt
  have hy2 : (y 2).val < 1024 := (y 2).isLt
  rw [after0_7]
  refine (point m c t y (by omega) (by omega) (by omega)).trans (congrArg _ ?_)
  have e0 : ((((cfg0.win 7).blk t).view.emb y) 0).val = t.val / 128 := by blk_simp [idx t]
  have e1 : ((((cfg0.win 7).blk t).view.emb y) 1).val = t.val / 8 % 16 * 512 + (y 1).val := by blk_simp [idx t]
  have e2 : ((((cfg0.win 7).blk t).view.emb y) 2).val = t.val % 8 * 1024 + (y 2).val := by blk_simp [idx t]
  funext a
  match a with
  | ⟨0, _⟩ => exact Fin.ext e0.symm
  | ⟨1, _⟩ => exact Fin.ext e1.symm
  | ⟨2, _⟩ => exact Fin.ext e2.symm

end Cert.InProjIdeal.Value

end
-- ==== Proof.GluVal.lean ====
module

public import proofs.«01_k».proof.Proof.Gen.GluIdeal.Value
public import proofs.«01_k».proof.Proof.Gen.GluRefIdeal.Read
public import proofs.«01_k».proof.Proof.Pos
public import Idealize.ShloMosaic.Lib.Pipeline.ValueKit
public import Idealize.ShloMosaic.Lib.Pipeline.ReadBack

@[expose] public section

set_option maxRecDepth 16384

noncomputable section

namespace Cert.GluIdeal.Value

open Cert.GluIdeal Cert.GluIdeal.Gen Idealize.ShloMosaic Idealize.ShloMosaic.TcCoe Idealize.SL.Sem
open Idealize.ShloMosaic.Pipeline (Dat)
open Cert.GluRefIdeal.Read

variable (m : (ℓ : Loc nD τ sig) → Buf (Elt Ideal) ℓ)

/-- The windows' block indices at a grid point. -/
theorem idx : ∀ t : Fin cfg0.N, win0_0.index t = ![0, t.val / 32, t.val / 2 % 16, 0] ∧ win0_1.index t = ![t.val / 32, t.val / 2 % 16, 0]
    ∧ win0_2.index t = ![0, 0] ∧ win0_3.index t = ![0, t.val % 2] ∧ win0_4.index t = ![0, 2 + t.val % 2]
    ∧ win0_5.index t = ![t.val / 32, t.val / 2 % 16, t.val % 2] :=
  (by decide +kernel : ∀ t : Fin grid0.N, _)

/-- The output's payload with its tiles known as parts of the arrays: the reference's result. -/
theorem pay2_ref (A : FVec Ideal S512x1024 .bf16) (wv wg : FVec Ideal S1024x1024 .bf16)
    (X0 : FVec Ideal S2x2x8192x1024 .f32) (X1 : FVec Ideal S2x8192x8192 .bf16) (X2 : FVec Ideal S1x1024 .f32)
    (X3 : FVec Ideal S1x1024x4096 .f32) (j : S1x512x1024.Idx)
    (b : Fin 2) (n : Fin 8192) (e : Fin 2048) (q : ℕ) (he : e.val = q * 1024 + (j 2).val) (hq : q < 2)
    (hA : ∀ d : Fin 1024, A (ix2 (j 1) d) = val_main_v24 (F := Ideal) X0 X1 X2 (ix3 b n d))
    (hv : ∀ d : Fin 1024, wv (ix2 d (j 2)) = X3 (ix3 0 d (⟨e.val, by omega⟩ : Fin 4096)))
    (hg : ∀ d : Fin 1024, wg (ix2 d (j 2)) = X3 (ix3 0 d (⟨2048 + e.val, by omega⟩ : Fin 4096))) :
    k0_pay2 (F := Ideal) A wv wg j = val_main_v36 (F := Ideal) X0 X1 X2 X3 (ix3 b n e) := by
  pointwise [k0_pay2, val_main_v25, val_main_v26, val_main_v27, val_main_v28, val_main_v29, val_main_v30, val_main_cst_3, val_main_v31, val_main_v32, val_main_cst_4, val_main_v33, val_main_v34, val_main_v35, val_main_v36]
  unfold Ideal.logistic
  simp only [hA, hv, hg]

/-- The left operand of the product at a place of a tile is the reference's at the array index of that place. -/
theorem h_point (c : Dev nD) (t : Fin cfg0.N) (j : S512x1024.Idx) (h0 : t.val / 32 < 2) (h1 : t.val / 2 % 16 * 512 + (j 0).val < 8192) :
    k0_pay1 (View.ld (iblk m c 0 t) (Rect.unit ![0, 0, 0, 0] ![1, 1, 512, 1024] inb_S2x1x512x1024_S1x1x512x1024_0_0_0_0))
        (View.ld (iblk m c 0 t) (Rect.unit ![1, 0, 0, 0] ![1, 1, 512, 1024] inb_S2x1x512x1024_S1x1x512x1024_1_0_0_0))
        (iblk m c 1 t) (iblk m c 2 t) j
      = val_main_v24 (F := Ideal) (m ((c : Thread nD τ).loc main_arg0)) (m ((c : Thread nD τ).loc main_arg1)) (m ((c : Thread nD τ).loc main_arg2))
          (ix3 (⟨t.val / 32, h0⟩ : Fin 2) (⟨t.val / 2 % 16 * 512 + (j 0).val, h1⟩ : Fin 8192) (j 1)) := by
  pointwise [k0_pay1, val_main_v0, val_main_v1, val_main_v2, val_main_v3, val_main_v4, val_main_v5, val_main_v6, val_main_v7, val_main_v8, val_main_v9, val_main_v10, val_main_v11, val_main_v12, val_main_v13, val_main_cst, val_main_v14, val_main_v15, val_main_v16, val_main_cst_0, val_main_v17, val_main_v18, val_main_v19, val_main_cst_1, val_main_v20, val_main_v21, val_main_cst_2, val_main_v22, val_main_v23, val_main_v24]
  blk_point [iblk, V, idx t]

/-- The scratch as a run's first point leaves it. -/
theorem s0_A (c : Dev nD) (t : Fin cfg0.N) (h0 : t.val % 2 = 0) :
    (outsAt0 m c t.val t.isLt).2 = k0_pay1 (View.ld (iblk m c 0 t) (Rect.unit ![0, 0, 0, 0] ![1, 1, 512, 1024] inb_S2x1x512x1024_S1x1x512x1024_0_0_0_0))
        (View.ld (iblk m c 0 t) (Rect.unit ![1, 0, 0, 0] ![1, 1, 512, 1024] inb_S2x1x512x1024_S1x1x512x1024_1_0_0_0))
        (iblk m c 1 t) (iblk m c 2 t) := by
  rw [outsAt0_A m c t h0]; frame_out; rfl

/-- A run's other points leave the scratch alone. -/
theorem s0_B (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]; rfl

/-- The output block a point leaves, over the scratch it leaves. -/
theorem o_val (c : Dev nD) (t : Fin cfg0.N) :
    (outsAt0 m c t.val t.isLt).1 = k0_pay2 (outsAt0 m c t.val t.isLt).2 (iblk m c 3 t) (iblk m c 4 t) := by
  by_cases h0 : t.val % 2 = 0
  · rw [outsAt0_A m c t h0]; frame_out
  · rw [outsAt0_B m c t h0]; frame_out; simp only [read_unread_whole]; rfl

/-- The scratch holds, at every point of a run, the run's rows of the product's left operand. -/
theorem s0_held (c : Dev nD) : ∀ (n : ℕ) (h : n < cfg0.N) (j : S512x1024.Idx) (h0 : n / 32 < 2)
    (h1 : n / 2 % 16 * 512 + (j 0).val < 8192),
    (outsAt0 m c n h).2 j
      = val_main_v24 (F := Ideal) (m ((c : Thread nD τ).loc main_arg0)) (m ((c : Thread nD τ).loc main_arg1)) (m ((c : Thread nD τ).loc main_arg2))
          (ix3 (⟨n / 32, h0⟩ : Fin 2) (⟨n / 2 % 16 * 512 + (j 0).val, h1⟩ : Fin 8192) (j 1)) := by
  intro n
  induction n with
  | zero => intro h j h0 h1; exact (congrFun (s0_A m c ⟨0, h⟩ rfl) j).trans (h_point m c ⟨0, h⟩ j h0 h1)
  | succ n ih =>
    intro h j h0 h1
    by_cases hA : (n + 1) % 2 = 0
    · exact (congrFun (s0_A m c ⟨n + 1, h⟩ hA) j).trans (h_point m c ⟨n + 1, h⟩ j h0 h1)
    · have e0 : n / 32 = (n + 1) / 32 := by omega
      have e1 : n / 2 = (n + 1) / 2 := by omega
      refine (congrFun (s0_B m c ⟨n + 1, h⟩ hA) j).trans
        ((ih (Nat.lt_of_succ_lt h) j (by omega) (by rw [e1]; exact h1)).trans ?_)
      simp only [e0, e1]

/-- The output block at a place of a tile is the reference's result at the array index of that place. -/
theorem point (c : Dev nD) (t : Fin cfg0.N) (j : S1x512x1024.Idx) (h0 : t.val / 32 < 2)
    (h1 : t.val / 2 % 16 * 512 + (j 1).val < 8192) (h2 : t.val % 2 * 1024 + (j 2).val < 2048) :
    (outsAt0 m c t.val t.isLt).1 j
      = val_main_v36 (F := Ideal) (m ((c : Thread nD τ).loc main_arg0)) (m ((c : Thread nD τ).loc main_arg1)) (m ((c : Thread nD τ).loc main_arg2)) (m ((c : Thread nD τ).loc main_arg3))
          (ix3 (⟨t.val / 32, h0⟩ : Fin 2) (⟨t.val / 2 % 16 * 512 + (j 1).val, h1⟩ : Fin 8192) (⟨t.val % 2 * 1024 + (j 2).val, h2⟩ : Fin 2048)) := by
  rw [o_val]
  refine pay2_ref _ _ _ _ _ _ _ j _ _ _ (t.val % 2) rfl (by omega) (fun d => s0_held m c t.val t.isLt (ix2 (j 1) d) h0 h1) (fun d => ?_) (fun d => ?_) <;> blk_point [iblk, V, idx t]

/-- The output array after the run is the reference's result. -/
theorem final (c : Dev nD) : (dats m 0 c).arrAt 5 cfg0.N
    = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 64 := t.isLt
  have hy0 : (y 0).val < 1 := (y 0).isLt
  have hy : (y 1).val < 512 := (y 1).isLt
  have hy2 : (y 2).val < 1024 := (y 2).isLt
  rw [after0_5]
  refine (point m c t y (by omega) (by omega) (by omega)).trans (congrArg _ ?_)
  have e0 : ((((cfg0.win 5).blk t).view.emb y) 0).val = t.val / 32 := by blk_simp [idx t]
  have e1 : ((((cfg0.win 5).blk t).view.emb y) 1).val = t.val / 2 % 16 * 512 + (y 1).val := by blk_simp [idx t]
  have e2 : ((((cfg0.win 5).blk t).view.emb y) 2).val = t.val % 2 * 1024 + (y 2).val := by blk_simp [idx t]
  funext a
  match a with
  | ⟨0, _⟩ => exact Fin.ext e0.symm
  | ⟨1, _⟩ => exact Fin.ext e1.symm
  | ⟨2, _⟩ => exact Fin.ext e2.symm

end Cert.GluIdeal.Value

end
-- ==== Proof.MergeVal.lean ====
module

public import proofs.«01_k».proof.Proof.Gen.MergeIdeal.Value
public import proofs.«01_k».proof.Proof.Gen.MergeRefIdeal.Read
public import proofs.«01_k».proof.Proof.Pos
public import Idealize.ShloMosaic.Lib.Pipeline.ValueKit
public import Idealize.ShloMosaic.Lib.Pipeline.ReadBack

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

/-- The windows' block indices at a grid point. -/
theorem idx : ∀ t : Fin cfg0.N, win0_0.index t = ![t.val / 32, t.val / 2 % 16, 0] ∧ win0_1.index t = ![t.val / 32, t.val / 2 % 16, 0]
    ∧ win0_2.index t = ![0, t.val % 2] ∧ win0_3.index t = ![t.val / 32, t.val / 2 % 16, t.val % 2]
    ∧ win0_4.index t = ![t.val / 32, t.val / 2 % 16, 4 + t.val % 2] ∧ win0_5.index t = ![t.val / 32, t.val / 2 % 16, 6 + t.val % 2]
    ∧ win0_6.index t = ![t.val / 32, t.val / 2 % 16, t.val % 2] :=
  (by decide +kernel : ∀ t : Fin grid0.N, _)

/-- The output's payload with its tiles known as parts of the arrays: the reference's result. -/
theorem pay2_ref (A : FVec Ideal S512x1024 .bf16) (w : FVec Ideal S1024x1024 .bf16) (gs bs gh : FVec Ideal S1x512x1024 .bf16)
    (X0 : FVec Ideal S2x8192x1024 .bf16) (X1 : FVec Ideal S2x8192x1024 .f32) (X2 : FVec Ideal S1x1024x2048 .f32)
    (X3 : FVec Ideal S2x8192x2048 .bf16) (X4 : FVec Ideal S2x8192x8192 .bf16) (j : S1x512x1024.Idx)
    (b : Fin 2) (n : Fin 8192) (e : Fin 2048) (q : ℕ) (he : e.val = q * 1024 + (j 2).val) (hq : q < 2)
    (hA : ∀ d : Fin 1024, A (ix2 (j 1) d) = val_main_v5 (F := Ideal) X0 X1 (ix3 b n d))
    (hw : ∀ d : Fin 1024, w (ix2 d (j 2)) = X2 (ix3 0 d e))
    (hgs : gs j = X4 (ix3 b n (⟨4096 + e.val, by omega⟩ : Fin 8192))) (hbs : bs j = X3 (ix3 b n e))
    (hgh : gh j = X4 (ix3 b n (⟨4096 + (2048 + e.val), by omega⟩ : Fin 8192))) :
    k0_pay2 (F := Ideal) A w gs bs gh j = val_main_v24 (F := Ideal) X0 X1 X2 X3 X4 (ix3 b n e) := by
  pointwise [k0_pay2, val_main_v0, val_main_v1, val_main_v2, val_main_v3, val_main_v6, val_main_v7, val_main_v8, val_main_v9, val_main_cst, val_main_v10, val_main_v11, val_main_cst_0, val_main_v12, val_main_v13, val_main_v14, val_main_v15, val_main_v16, val_main_v17, val_main_cst_1, val_main_v18, val_main_v19, val_main_cst_2, val_main_v20, val_main_v21, val_main_v22, val_main_v23, val_main_v24]
  unfold Ideal.logistic
  rw [hgs, hbs, hgh]
  simp only [hA, hw]

/-- The left operand of the product at a place of a tile is the reference's at the array index of that place. -/
theorem h_point (c : Dev nD) (t : Fin cfg0.N) (j : S512x1024.Idx) (h0 : t.val / 32 < 2) (h1 : t.val / 2 % 16 * 512 + (j 0).val < 8192) :
    k0_pay1 (iblk m c 0 t) (iblk m c 1 t) j
      = val_main_v5 (F := Ideal) (m ((c : Thread nD τ).loc main_arg0)) (m ((c : Thread nD τ).loc main_arg1))
          (ix3 (⟨t.val / 32, h0⟩ : Fin 2) (⟨t.val / 2 % 16 * 512 + (j 0).val, h1⟩ : Fin 8192) (j 1)) := by
  pointwise [k0_pay1, val_main_v4, val_main_v5]
  blk_point [iblk, V, idx t]

/-- The scratch as a run's first point leaves it. -/
theorem s0_A (c : Dev nD) (t : Fin cfg0.N) (h0 : t.val % 2 = 0) :
    (outsAt0 m c t.val t.isLt).2 = k0_pay1 (iblk m c 0 t) (iblk m c 1 t) := by
  rw [outsAt0_A m c t h0]; frame_out

/-- A run's other points leave the scratch alone. -/
theorem s0_B (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]; rfl

/-- The output block a point leaves, over the scratch it leaves. -/
theorem o_val (c : Dev nD) (t : Fin cfg0.N) :
    (outsAt0 m c t.val t.isLt).1 = k0_pay2 (outsAt0 m c t.val t.isLt).2 (iblk m c 2 t) (iblk m c 4 t) (iblk m c 3 t) (iblk m c 5 t) := by
  by_cases h0 : t.val % 2 = 0
  · rw [outsAt0_A m c t h0]; frame_out
  · rw [outsAt0_B m c t h0]; frame_out; simp only [read_unread_whole]; rfl

/-- The scratch holds, at every point of a run, the run's rows of the product's left operand. -/
theorem s0_held (c : Dev nD) : ∀ (n : ℕ) (h : n < cfg0.N) (j : S512x1024.Idx) (h0 : n / 32 < 2)
    (h1 : n / 2 % 16 * 512 + (j 0).val < 8192),
    (outsAt0 m c n h).2 j
      = val_main_v5 (F := Ideal) (m ((c : Thread nD τ).loc main_arg0)) (m ((c : Thread nD τ).loc main_arg1))
          (ix3 (⟨n / 32, h0⟩ : Fin 2) (⟨n / 2 % 16 * 512 + (j 0).val, h1⟩ : Fin 8192) (j 1)) := by
  intro n
  induction n with
  | zero => intro h j h0 h1; exact (congrFun (s0_A m c ⟨0, h⟩ rfl) j).trans (h_point m c ⟨0, h⟩ j h0 h1)
  | succ n ih =>
    intro h j h0 h1
    by_cases hA : (n + 1) % 2 = 0
    · exact (congrFun (s0_A m c ⟨n + 1, h⟩ hA) j).trans (h_point m c ⟨n + 1, h⟩ j h0 h1)
    · have e0 : n / 32 = (n + 1) / 32 := by omega
      have e1 : n / 2 = (n + 1) / 2 := by omega
      refine (congrFun (s0_B m c ⟨n + 1, h⟩ hA) j).trans
        ((ih (Nat.lt_of_succ_lt h) j (by omega) (by rw [e1]; exact h1)).trans ?_)
      simp only [e0, e1]

/-- The output block at a place of a tile is the reference's result at the array index of that place. -/
theorem point (c : Dev nD) (t : Fin cfg0.N) (j : S1x512x1024.Idx) (h0 : t.val / 32 < 2)
    (h1 : t.val / 2 % 16 * 512 + (j 1).val < 8192) (h2 : t.val % 2 * 1024 + (j 2).val < 2048) :
    (outsAt0 m c t.val t.isLt).1 j
      = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (ix3 (⟨t.val / 32, h0⟩ : Fin 2) (⟨t.val / 2 % 16 * 512 + (j 1).val, h1⟩ : Fin 8192) (⟨t.val % 2 * 1024 + (j 2).val, h2⟩ : Fin 2048)) := by
  rw [o_val]
  refine pay2_ref _ _ _ _ _ _ _ _ _ _ j _ _ _ (t.val % 2) rfl (by omega) (fun d => s0_held m c t.val t.isLt (ix2 (j 1) d) h0 h1) (fun d => ?_) ?_ ?_ ?_ <;> blk_point [iblk, V, idx t]

/-- The output array after the run is the reference's result. -/
theorem final (c : Dev nD) : (dats m 0 c).arrAt 6 cfg0.N
    = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 64 := t.isLt
  have hy0 : (y 0).val < 1 := (y 0).isLt
  have hy : (y 1).val < 512 := (y 1).isLt
  have hy2 : (y 2).val < 1024 := (y 2).isLt
  rw [after0_6]
  refine (point m c t y (by omega) (by omega) (by omega)).trans (congrArg _ ?_)
  have e0 : ((((cfg0.win 6).blk t).view.emb y) 0).val = t.val / 32 := by blk_simp [idx t]
  have e1 : ((((cfg0.win 6).blk t).view.emb y) 1).val = t.val / 2 % 16 * 512 + (y 1).val := by blk_simp [idx t]
  have e2 : ((((cfg0.win 6).blk t).view.emb y) 2).val = t.val % 2 * 1024 + (y 2).val := by blk_simp [idx t]
  funext a
  match a with
  | ⟨0, _⟩ => exact Fin.ext e0.symm
  | ⟨1, _⟩ => exact Fin.ext e1.symm
  | ⟨2, _⟩ => exact Fin.ext e2.symm

end Cert.MergeIdeal.Value

end
-- ==== Proof.OutProjVal.lean ====
module

public import proofs.«01_k».proof.Proof.Gen.OutProjIdeal.Value
public import proofs.«01_k».proof.Proof.Gen.OutProjRefIdeal.Read
public import proofs.«01_k».proof.Proof.Pos
public import Idealize.ShloMosaic.Lib.Pipeline.ValueKit

@[expose] public section

set_option maxRecDepth 16384

noncomputable section

namespace Cert.OutProjIdeal.Value

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- The windows' block indices at a grid point. -/
theorem idx : ∀ t : Fin cfg0.N, win0_0.index t = ![t.val / 16, t.val % 16, 0] ∧ win0_1.index t = ![0, 0]
    ∧ win0_2.index t = ![t.val / 16, t.val % 16, 0] ∧ win0_3.index t = ![t.val % 16, 0] ∧ win0_4.index t = ![0, 0]
    ∧ win0_5.index t = ![t.val / 16, 0, 0] ∧ win0_6.index t = ![t.val / 16, t.val % 16, 0] :=
  (by decide +kernel : ∀ t : Fin grid0.N, _)

/-- The reference's result at an index. -/
theorem ref_at (X0 : FVec Ideal S2x8192x2048 .bf16) (X1 : FVec Ideal S1x2048x2048 .f32) (X2 : FVec Ideal S2x8192x2048 .f32)
    (X3 : FVec Ideal S2x2048 .f32) (j : S2x8192x2048.Idx) :
    Cert.OutProjRefIdeal.Read.val_main_v37 (F := Ideal) X0 X1 X2 X3 j
      = (X2 j + Cert.Pos.emb (j 1).val (j 2).val) + X3 (ix2 (j 0) (j 2)) * ∑ x : Fin 2048, X0 (ix3 (j 0) (j 1) x) * X1 (ix3 0 x (j 2)) := by
  pointwise [Cert.OutProjRefIdeal.Read.val_main_v0, Cert.OutProjRefIdeal.Read.val_main_v1, Cert.OutProjRefIdeal.Read.val_main_v2, Cert.OutProjRefIdeal.Read.val_main_v3, Cert.OutProjRefIdeal.Read.val_main_v4, Cert.OutProjRefIdeal.Read.val_main_v5, Cert.OutProjRefIdeal.Read.val_main_v6, Cert.OutProjRefIdeal.Read.val_main_v7, Cert.OutProjRefIdeal.Read.val_main_v8, Cert.OutProjRefIdeal.Read.val_main_cst, Cert.OutProjRefIdeal.Read.val_main_v9, Cert.OutProjRefIdeal.Read.val_main_v10, Cert.OutProjRefIdeal.Read.val_main_cst_0, Cert.OutProjRefIdeal.Read.val_main_v11, Cert.OutProjRefIdeal.Read.val_main_v12, Cert.OutProjRefIdeal.Read.val_main_v13, Cert.OutProjRefIdeal.Read.val_main_v14, Cert.OutProjRefIdeal.Read.val_main_v15, Cert.OutProjRefIdeal.Read.val_main_v16, Cert.OutProjRefIdeal.Read.val_main_v17, Cert.OutProjRefIdeal.Read.val_main_v18, Cert.OutProjRefIdeal.Read.val_main_v19, Cert.OutProjRefIdeal.Read.val_main_v20, Cert.OutProjRefIdeal.Read.val_main_v21, Cert.OutProjRefIdeal.Read.val_main_v22, Cert.OutProjRefIdeal.Read.val_main_v23, Cert.OutProjRefIdeal.Read.val_main_v24, Cert.OutProjRefIdeal.Read.val_main_v25, Cert.OutProjRefIdeal.Read.val_main_v26, Cert.OutProjRefIdeal.Read.val_main_v27, Cert.OutProjRefIdeal.Read.val_main_v28, Cert.OutProjRefIdeal.Read.val_main_v29, Cert.OutProjRefIdeal.Read.val_main_v30, Cert.OutProjRefIdeal.Read.val_main_v31, Cert.OutProjRefIdeal.Read.val_main_v32, Cert.OutProjRefIdeal.Read.val_main_v33, Cert.OutProjRefIdeal.Read.val_main_v34, Cert.OutProjRefIdeal.Read.val_main_v35, Cert.OutProjRefIdeal.Read.val_main_v36, Cert.OutProjRefIdeal.Read.val_main_v37]
  rw [Cert.Pos.emb_eq]
  rfl

/-- The row table as the call finds it. -/
theorem tab_row (c : Dev nD) (r : Fin 128) (j : Fin 1024) :
    V m c main_v20 (ix2 r j) = Cert.Pos.half r.val j.val := by
  entry_read; pointwise
  rfl

/-- The column table as the call finds it. -/
theorem tab_col (c : Dev nD) (r : Fin 64) (j : Fin 1024) :
    V m c main_v23 (ix2 r j) = Cert.Pos.half r.val j.val := by
  entry_read; pointwise
  rfl

/-- A block of the row table. -/
theorem blk_row (c : Dev nD) (t : Fin cfg0.N) (r : Fin 8) (j : Fin 1024) :
    iblk m c 3 t (ix2 r j) = Cert.Pos.half (t.val % 16 * 8 + r.val) j.val := by
  refine Eq.trans ?_ (tab_row m c ⟨t.val % 16 * 8 + r.val, by omega⟩ j)
  blk_ext [iblk, idx t]

/-- The column table's block. -/
theorem blk_col (c : Dev nD) (t : Fin cfg0.N) (r : Fin 64) (j : Fin 1024) :
    iblk m c 4 t (ix2 r j) = Cert.Pos.half r.val j.val := by
  refine Eq.trans ?_ (tab_col m c r j)
  blk_ext [iblk, idx t]

/-- The body's payload at an index, the two position blocks given in closed form. -/
theorem pay_at (A2 : FVec Ideal S1x512x2048 .f32) (A3 : FVec Ideal S8x1024 .f32) (A4 : FVec Ideal S64x1024 .f32)
    (A5 : FVec Ideal S1x1x2048 .f32) (A0 : FVec Ideal S1x512x2048 .bf16) (A1 : FVec Ideal S2048x2048 .bf16) (q : ℕ)
    (h3 : ∀ (r : Fin 8) (j : Fin 1024), A3 (ix2 r j) = Cert.Pos.half (q * 8 + r.val) j.val)
    (h4 : ∀ (r : Fin 64) (j : Fin 1024), A4 (ix2 r j) = Cert.Pos.half r.val j.val) (y : S1x512x2048.Idx) :
    k0_pay1 A2 A3 A4 A5 A0 A1 y = (A2 y + Cert.Pos.emb (q * 512 + (y 1).val) (y 2).val)
      + A5 (ix3 0 0 (y 2)) * ∑ x : Fin 2048, A0 (ix3 0 (y 1) x) * A1 (ix2 x (y 2)) := by
  have h1 : (y 1).val < 512 := (y 1).isLt
  have h2 : (y 2).val < 2048 := (y 2).isLt
  pointwise [k0_pay1]
  congr 2
  unfold Cert.Pos.emb
  split
  · rw [h3]; congr 1; dsimp only; omega
  · rw [h4]; congr 1; dsimp only; omega

/-- What a grid point stores at a place of its block is the reference's result at the array index of that place. -/
theorem point (c : Dev nD) (t : Fin cfg0.N) (y : S1x512x2048.Idx) :
    k0_pay1 (iblk m c 2 t) (iblk m c 3 t) (iblk m c 4 t) (iblk m c 5 t) (iblk m c 0 t) (iblk m c 1 t) y
      = Cert.OutProjRefIdeal.Read.val_main_v37 (F := Ideal) (m ((c : Thread nD τ).loc main_arg0)) (m ((c : Thread nD τ).loc main_arg1))
          (m ((c : Thread nD τ).loc main_arg2)) (m ((c : Thread nD τ).loc main_arg3)) (((cfg0.win 6).blk t).view.emb y) := by
  rw [pay_at _ _ _ _ _ _ (t.val % 16) (blk_row m c t) (blk_col m c t), ref_at]
  have e1 : ((((cfg0.win 6).blk t).view.emb y) 1).val = t.val % 16 * 512 + (y 1).val := by blk_simp [idx t]
  have e2 : ((((cfg0.win 6).blk t).view.emb y) 2).val = (y 2).val := by blk_simp [idx t]; try omega
  rw [e1, e2]
  blk_point [iblk, V, idx t]

/-- The result array after the run is the reference's result. -/
theorem final (c : Dev nD) : (dats m 0 c).arrAt 6 cfg0.N
    = Cert.OutProjRefIdeal.Read.val_main_v37 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t _ y => ?_
  blk_simp
  rw [after0_6]; frame_out
  exact point m c t y

end Cert.OutProjIdeal.Value

end
-- ==== Proof.S5Run.lean ====
/- A Hoare judgement over programs of loads and stores, for a body whose buffers' contents are followed as plain
   functions: `Run` says that a program, started with the buffers holding a state `σ`, ends with a value and a state
   that a relation holds of. The rules below are one per operation (a load reads the state through the rectangle, a
   store puts its payload over it), with `Run.for` for a counted loop kept by an invariant. -/
module

public import Idealize.ShloMosaic.Lib.Writes
public import Idealize.ShloMosaic.Lib.Memref
public import Idealize.ShloMosaic.Lib.Scf

@[expose] public section

noncomputable section

namespace S5Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- `X` with the payload `w` put over the rectangle `r`. -/
def put {V : Type} {s : Shape} (r : Rect s) (w : r.shape.Idx → V) (X : s.Idx → V) : s.Idx → V :=
  fun x => open Classical in if h : ∃ j, r.emb j = x then w h.choose else X x

theorem put_emb {V : Type} {s : Shape} (r : Rect s) (w : r.shape.Idx → V) (X : s.Idx → V) (j : r.shape.Idx) :
    put r w X (r.emb j) = w j := by
  have h : ∃ j', r.emb j' = r.emb j := ⟨j, rfl⟩
  rw [put, dif_pos h]
  exact congrArg w (r.emb.injective h.choose_spec)

theorem put_miss {V : Type} {s : Shape} (r : Rect s) (w : r.shape.Idx → V) (X : s.Idx → V) (x : s.Idx)
    (h : x ∉ r.set) : put r w X x = X x :=
  dif_neg fun ⟨j, hj⟩ => h (hj ▸ r.idx_mem j)

/-- A place told coordinate by coordinate reads the payload there. -/
theorem put_hit {V : Type} {s : Shape} (r : Rect s) (w : r.shape.Idx → V) (X : s.Idx → V) (j : r.shape.Idx) (x : s.Idx)
    (h : ∀ a, (x a).val = r.off a + r.stride a * (j a).val) : put r w X x = w j := by
  rw [← r.emb_eq_of_coords j x h]
  exact put_emb r w X j

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] (defs : Defs nD τ sig Val Λ) (𝒱 : Variants) (c : Thread nD τ) (bd : Option 𝒱.V)

local notation "𝕄" => MT nD τ sig Ix Val Name U Lvl

/-- `X` read back after a store over `r`. -/
theorem read_store {cs : CoreSpace} {s : Shape} {e : EltTy} (m : Memref sig c.2.kind cs s e) (r : Rect s)
    (w : r.shape.Idx → Val e) (f : Buf Val (m.view.loc c)) :
    m.view.read Val ((m.access r).write Val f w Finset.univ) = put r w (m.view.read Val f) := by
  funext x
  by_cases h : x ∈ r.set
  · obtain ⟨j, rfl⟩ := r.exists_idx_of_mem h
    exact (View.read_writes_cons_emb m.view f r w [] j).trans (put_emb r w _ j).symm
  · exact (View.read_writes_cons_miss m.view f ⟨r, w⟩ [] x h).trans (put_miss r w _ x h).symm

variable {S : Type}

/-- The assertion `A` holds the memref `m` at `get`. -/
def Rd (A : S → sProp 𝕄) {cs : CoreSpace} {s : Shape} {e : EltTy} (m : Memref sig c.2.kind cs s e) (get : S → s.Idx → Val e) : Prop :=
  ∀ σ, A σ ⊢ (iprop(owns c m fullShare (get σ) ∗ (owns c m fullShare (get σ) -∗ A σ)) : sProp 𝕄)

/-- The assertion `A` holds the memref `m` at `get`, and other contents make it the assertion of `set`. -/
def Wr (A : S → sProp 𝕄) {cs : CoreSpace} {s : Shape} {e : EltTy} (m : Memref sig c.2.kind cs s e) (get : S → s.Idx → Val e)
    (set : S → (s.Idx → Val e) → S) : Prop :=
  ∀ σ X, A σ ⊢ (iprop(owns c m fullShare (get σ) ∗ (owns c m fullShare X -∗ A (set σ X))) : sProp 𝕄)

/-- From the buffers at `σ`, `p` runs and ends with a value and a state that `Q` holds of. -/
def Run (A : S → sProp 𝕄) {α : Type} (p : Prog (TpuEff nD τ sig Val Λ c.2) α) (σ : S) (Q : α → S → Prop) : Prop :=
  ∀ (E : Set Name) (K : α → sProp 𝕄), (∀ a σ', Q a σ' → A σ' ⊢ K a) → A σ ⊢ wp frame (wpE defs 𝒱 c bd) E p K

variable {defs 𝒱 c bd} {α β : Type}

theorem Run.ret {A : S → sProp 𝕄} {a : α} {σ : S} {Q : α → S → Prop} (h : Q a σ) : Run defs 𝒱 c bd A (pure a) σ Q := by
  intro E K hK
  show A σ ⊢ wp frame (wpE defs 𝒱 c bd) E (.ret a) K
  rw [wp_ret]
  iintro H
  imodintro
  iapply (hK a σ h)
  iexact H

theorem Run.bind {A : S → sProp 𝕄} {p : Prog (TpuEff nD τ sig Val Λ c.2) α} {k : α → Prog (TpuEff nD τ sig Val Λ c.2) β} {σ : S}
    {Q : β → S → Prop} (R : α → S → Prop) (h : Run defs 𝒱 c bd A p σ R)
    (hk : ∀ a σ', R a σ' → Run defs 𝒱 c bd A (k a) σ' Q) : Run defs 𝒱 c bd A (p >>= k) σ Q := by
  intro E K hK
  rw [wp_bind]
  exact h E _ fun a σ' ha => hk a σ' ha E K hK

theorem Run.mono {A : S → sProp 𝕄} {p : Prog (TpuEff nD τ sig Val Λ c.2) α} {σ : S} {Q R : α → S → Prop}
    (h : Run defs 𝒱 c bd A p σ R) (hR : ∀ a σ', R a σ' → Q a σ') : Run defs 𝒱 c bd A p σ Q :=
  fun E K hK => h E K fun a σ' ha => hK a σ' (hR a σ' ha)

theorem Run.load {A : S → sProp 𝕄} {cs : CoreSpace} {s : Shape} {e : EltTy} {m : Memref sig c.2.kind cs s e} {get : S → s.Idx → Val e}
    (hm : Rd c A m get) {r : LoadRect s} {hl : m.view.LoadsAt r}
    {k : (r.shape.Idx → Val e) → Prog (TpuEff nD τ sig Val Λ c.2) β} {σ : S} {Q : β → S → Prop}
    (h : Run defs 𝒱 c bd A (k fun j => get σ (r.idx j)) σ Q) :
    Run defs 𝒱 c bd A (Prog.lift (.load m r hl) >>= k) σ Q := by
  intro E K hK
  show A σ ⊢ wp frame (wpE defs 𝒱 c bd) E (.op (.load m r hl) k) K
  have h1 := h E K hK
  refine (hm σ).trans ?_
  unfold owns
  iintro ⟨⟨%f, %hf, H⟩, Hk⟩
  iapply (wp_load 𝒱 c bd E (m := m) (r := r) (S := m.view.set) (f := f) (Finset.map_subset_map.mpr (Finset.subset_univ _))) $$ H
  iintro H
  have hv : m.view.readAt Val r f = fun j => get σ (r.idx j) := by rw [← hf]; rfl
  rw [hv]
  iapply h1
  iapply Hk
  iexists f
  isplitr
  · ipureintro; exact hf
  · iexact H

/-- A load that ends the program. -/
theorem Run.load_ret {A : S → sProp 𝕄} {cs : CoreSpace} {s : Shape} {e : EltTy} {m : Memref sig c.2.kind cs s e} {get : S → s.Idx → Val e}
    (hm : Rd c A m get) {r : LoadRect s} {hl : m.view.LoadsAt r} {σ : S} {Q : (r.shape.Idx → Val e) → S → Prop}
    (h : Q (fun j => get σ (r.idx j)) σ) : Run defs 𝒱 c bd A (Prog.lift (.load m r hl)) σ Q :=
  Run.load hm (k := fun v => pure v) (Run.ret h)

theorem Run.store {A : S → sProp 𝕄} {cs : CoreSpace} {s : Shape} {e : EltTy} {m : Memref sig c.2.kind cs s e} {get : S → s.Idx → Val e}
    {set : S → (s.Idx → Val e) → S} (hm : Wr c A m get set) {r : Rect s} {w : r.shape.Idx → Val e}
    {hx : (m.access r).Stores Finset.univ} {hs : Finset.univ = Finset.univ ∨ ∀ a, r.stride a = 1}
    {k : PUnit → Prog (TpuEff nD τ sig Val Λ c.2) β} {σ : S} {Q : β → S → Prop}
    (h : Run defs 𝒱 c bd A (k ⟨⟩) (set σ (put r w (get σ))) Q) :
    Run defs 𝒱 c bd A (Prog.lift (.store m r w Finset.univ hx hs) >>= k) σ Q := by
  intro E K hK
  show A σ ⊢ wp frame (wpE defs 𝒱 c bd) E (.op (.store m r w Finset.univ hx hs) k) K
  have h1 := h E K hK
  refine (hm σ (put r w (get σ))).trans ?_
  unfold owns
  iintro ⟨⟨%f, %hf, H⟩, Hk⟩
  iapply (wp_store 𝒱 c bd E (m := m) (r := r) (w := w) (hx := hx) (Mk := Finset.univ) (S := m.view.set) (f := f)
    (m.setOn_access_subset r _)) $$ H
  iintro H
  iapply h1
  iapply Hk
  iexists _
  isplitr
  rotate_left
  · iexact H
  · ipureintro
    rw [read_store, hf]

/-- A program at the head of another: what comes after runs from whatever the first ends with. -/
theorem Run.seq {A : S → sProp 𝕄} {p : Prog (TpuEff nD τ sig Val Λ c.2) α} {k : α → Prog (TpuEff nD τ sig Val Λ c.2) β} {σ : S}
    {Q : β → S → Prop} (h : Run defs 𝒱 c bd A p σ fun a σ' => Run defs 𝒱 c bd A (k a) σ' Q) :
    Run defs 𝒱 c bd A (p >>= k) σ Q :=
  Run.bind _ h fun _ _ h => h

theorem Run.dite_pos {A : S → sProp 𝕄} {P : Prop} [Decidable P] {p : P → Prog (TpuEff nD τ sig Val Λ c.2) α}
    {q : ¬P → Prog (TpuEff nD τ sig Val Λ c.2) α} {σ : S} {Q : α → S → Prop} (hP : P)
    (h : Run defs 𝒱 c bd A (p hP) σ Q) : Run defs 𝒱 c bd A (dite P p q) σ Q := by
  rwa [dif_pos hP]

theorem Run.dite_neg {A : S → sProp 𝕄} {P : Prop} [Decidable P] {p : P → Prog (TpuEff nD τ sig Val Λ c.2) α}
    {q : ¬P → Prog (TpuEff nD τ sig Val Λ c.2) α} {σ : S} {Q : α → S → Prop} (hP : ¬P)
    (h : Run defs 𝒱 c bd A (q hP) σ Q) : Run defs 𝒱 c bd A (dite P p q) σ Q := by
  rwa [dif_neg hP]

/-- A counted loop whose trips keep an invariant of the values carried and the buffers' state. -/
theorem Run.for {A : S → sProp 𝕄} {w : Nat} {C : Type} (l : Scf.Loop w) (hok : l.OK) {init : C}
    {body : Fin l.trips → C → Prog (TpuEff nD τ sig Val Λ c.2) C}
    {k : C → Prog (TpuEff nD τ sig Val Λ c.2) β} {σ : S} {Q : β → S → Prop} (I : Nat → C → S → Prop)
    (h0 : I 0 init σ)
    (hb : ∀ (t : Fin l.trips) (a : C) (σ' : S), I t.val a σ' → Run defs 𝒱 c bd A (body t a) σ' (I (t.val + 1)))
    (hk : ∀ a σ', I l.trips a σ' → Run defs 𝒱 c bd A (k a) σ' Q) :
    Run defs 𝒱 c bd A (Scf.Loop.for l hok init body >>= k) σ Q := by
  intro E K hK
  rw [wp_bind]
  have hfor := Scf.wp_for frame (wpE defs 𝒱 c bd) E l.lb l.ub l.st hok init body
    (fun n a => iprop(∃ σ', ⌜I n a σ'⌝ ∗ A σ')) (fun t a => by
      iintro ⟨%σ', %hI, H⟩
      iapply (hb t a σ' hI E _ fun a' σ'' h' => by
        iintro H
        iexists σ''
        isplitr
        · ipureintro; exact h'
        · iexact H)
      iexact H) (Q := fun a => wp frame (wpE defs 𝒱 c bd) E (k a) K)
  refine BIBase.Entails.trans ?_ hfor
  iintro H
  isplitl [H]
  · iexists σ
    isplitr
    · ipureintro; exact h0
    · iexact H
  · iintro %a ⟨%σ', %hI, H⟩
    iapply (hk a σ' hI E K hK)
    iexact H

end S5Run

end
-- ==== Proof.S5Fill.lean ====
/- The scan kernel's body, buffer contents as functions. This module has the state the body moves (the scratch of rows
   `s`, the carried state `st`, the output block `o`) and the first of the body's stretches: the input's product with
   the packed input matrix, stored tile by tile into the scratch. -/
module

public import proofs.«01_k».proof.Proof.Gen.S5Ideal.Skeleton
public import proofs.«01_k».proof.Proof.Gen.S5Ideal.Launch
public import proofs.«01_k».proof.Proof.S5Run
public import Idealize.ShloMosaic.Lib.Pipeline.ValueKit

@[expose] public section

set_option maxRecDepth 16384

noncomputable section

namespace Cert.S5Ideal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.S5Ideal Cert.S5Ideal.Gen S5Run

variable {F : FTy → Type} [FloatOps F]

local notation "𝕄" => MT nD τ sig Unit (Elt F) ℕ (UR sig nD τ) ℕ

/-- The contents of the buffers the body writes. -/
structure St (F : FTy → Type) where
  s : Vec F S8x2112x128 .f32
  st : Vec F S8x8x128 .f32
  o : Vec F S1x1x256x1024 .f32

/-- The buffers' memrefs. -/
structure Mems where
  arg3 : Memref sig .tc .vmem S1x256x1024 .bf16
  arg4 : Memref sig .tc .vmem S1x256x1024 .bf16
  arg5 : Memref sig .tc .vmem S1x8x128x1024 .bf16
  arg6 : Memref sig .tc .vmem S1x8x1024x128 .bf16
  arg7 : Memref sig .tc .vmem S1x4x8x128 .f32
  arg8 : Memref sig .tc .vmem S1x4x8x128 .f32
  arg9 : Memref sig .tc .vmem S1x1x256x1024 .f32
  arg10 : Memref sig .tc .vmem S8x2112x128 .f32
  arg11 : Memref sig .tc .vmem S8x8x128 .f32
  h3 : arg3.IsWhole
  h4 : arg4.IsWhole
  h5 : arg5.IsWhole
  h6 : arg6.IsWhole
  h7 : arg7.IsWhole
  h8 : arg8.IsWhole
  h9 : arg9.IsWhole
  h10 : arg10.IsWhole
  h11 : arg11.IsWhole

/-- The input windows' contents. -/
structure Ins (F : FTy → Type) where
  x3 : Vec F S1x256x1024 .bf16
  x4 : Vec F S1x256x1024 .bf16
  x5 : Vec F S1x8x128x1024 .bf16
  x6 : Vec F S1x8x1024x128 .bf16
  x7 : Vec F S1x4x8x128 .f32
  x8 : Vec F S1x4x8x128 .f32

variable (c : Dev nD) (M : Mems) (X : Ins F)

/-- The buffers a body holds: the inputs at `X`, the rest at the state. -/
def Held (σ : St F) : sProp 𝕄 :=
  iprop(owns (c : Thread nD τ) M.arg3 fullShare X.x3 ∗ owns (c : Thread nD τ) M.arg4 fullShare X.x4
    ∗ owns (c : Thread nD τ) M.arg5 fullShare X.x5 ∗ owns (c : Thread nD τ) M.arg6 fullShare X.x6
    ∗ owns (c : Thread nD τ) M.arg7 fullShare X.x7 ∗ owns (c : Thread nD τ) M.arg8 fullShare X.x8
    ∗ owns (c : Thread nD τ) M.arg9 fullShare σ.o ∗ owns (c : Thread nD τ) M.arg10 fullShare σ.s
    ∗ owns (c : Thread nD τ) M.arg11 fullShare σ.st)

theorem rd3 : Rd (c : Thread nD τ) (Held c M X) M.arg3 fun _ => X.x3 := fun σ => by
  unfold Held
  iintro ⟨H3, H4, H5, H6, H7, H8, H9, H10, H11⟩
  isplitl [H3]; · iexact H3
  iintro H3
  iframe

theorem rd4 : Rd (c : Thread nD τ) (Held c M X) M.arg4 fun _ => X.x4 := fun σ => by
  unfold Held
  iintro ⟨H3, H4, H5, H6, H7, H8, H9, H10, H11⟩
  isplitl [H4]; · iexact H4
  iintro H4
  iframe

theorem rd5 : Rd (c : Thread nD τ) (Held c M X) M.arg5 fun _ => X.x5 := fun σ => by
  unfold Held
  iintro ⟨H3, H4, H5, H6, H7, H8, H9, H10, H11⟩
  isplitl [H5]; · iexact H5
  iintro H5
  iframe

theorem rd6 : Rd (c : Thread nD τ) (Held c M X) M.arg6 fun _ => X.x6 := fun σ => by
  unfold Held
  iintro ⟨H3, H4, H5, H6, H7, H8, H9, H10, H11⟩
  isplitl [H6]; · iexact H6
  iintro H6
  iframe

theorem rd7 : Rd (c : Thread nD τ) (Held c M X) M.arg7 fun _ => X.x7 := fun σ => by
  unfold Held
  iintro ⟨H3, H4, H5, H6, H7, H8, H9, H10, H11⟩
  isplitl [H7]; · iexact H7
  iintro H7
  iframe

theorem rd8 : Rd (c : Thread nD τ) (Held c M X) M.arg8 fun _ => X.x8 := fun σ => by
  unfold Held
  iintro ⟨H3, H4, H5, H6, H7, H8, H9, H10, H11⟩
  isplitl [H8]; · iexact H8
  iintro H8
  iframe

theorem wr9 : Wr (c : Thread nD τ) (Held c M X) M.arg9 St.o fun σ Y => ⟨σ.s, σ.st, Y⟩ := fun σ Y => by
  unfold Held
  iintro ⟨H3, H4, H5, H6, H7, H8, H9, H10, H11⟩
  isplitl [H9]; · iexact H9
  iintro H9
  iframe

theorem rd9 : Rd (c : Thread nD τ) (Held c M X) M.arg9 St.o := fun σ => wr9 c M X σ σ.o

theorem wr10 : Wr (c : Thread nD τ) (Held c M X) M.arg10 St.s fun σ Y => ⟨Y, σ.st, σ.o⟩ := fun σ Y => by
  unfold Held
  iintro ⟨H3, H4, H5, H6, H7, H8, H9, H10, H11⟩
  isplitl [H10]; · iexact H10
  iintro H10
  iframe

theorem rd10 : Rd (c : Thread nD τ) (Held c M X) M.arg10 St.s := fun σ => wr10 c M X σ σ.s

theorem wr11 : Wr (c : Thread nD τ) (Held c M X) M.arg11 St.st fun σ Y => ⟨σ.s, Y, σ.o⟩ := fun σ Y => by
  unfold Held
  iintro ⟨H3, H4, H5, H6, H7, H8, H9, H10, H11⟩
  isplitl [H11]; · iexact H11
  iintro H11
  iframe

theorem rd11 : Rd (c : Thread nD τ) (Held c M X) M.arg11 St.st := fun σ => wr11 c M X σ σ.st

/-! ## The tiles of the product -/

theorem inb_u (n : ℕ) : ∀ a, (![0, 0, 128 * (n / 8 % 8)] : Fin 3 → ℕ) a + S1x256x128.size a ≤ S1x256x1024.size a := by
  intro a; fin_cases a <;> simp [S1x256x128, S1x256x1024] <;> omega

theorem inb_b (n : ℕ) : ∀ a, (![0, n / 8 % 8, 0, 0] : Fin 4 → ℕ) a + S1x1x128x1024.size a ≤ S1x8x128x1024.size a := by
  intro a; fin_cases a <;> simp [S1x1x128x1024, S1x8x128x1024] <;> omega

theorem inb_t (n : ℕ) : ∀ a, (![n % 8, 264 * (n / 8 % 8), 0] : Fin 3 → ℕ) a + S1x256x128.size a ≤ S8x2112x128.size a := by
  intro a; fin_cases a <;> simp [S1x256x128, S8x2112x128] <;> omega

theorem slices_t (n : ℕ) : S256x1024.Slices ![0, 128 * (n % 8)] S256x128 := by
  refine ⟨rfl, fun a => ?_⟩
  fin_cases a <;> simp [S256x1024, S256x128] <;> omega

/-- Chunk `n / 8` of the input times that chunk's matrix. -/
def bu (u : Vec F S1x256x1024 .bf16) (b : Vec F S1x8x128x1024 .bf16) (n : ℕ) : FVec F S256x1024 .f32 :=
  k0_pay10 (fun j => u ((Rect.unit (s := S1x256x1024) ![0, 0, 128 * (n / 8 % 8)] S1x256x128.size (inb_u n)).toLoadRect.idx j))
    (fun j => b ((Rect.unit (s := S1x8x128x1024) ![0, n / 8 % 8, 0, 0] S1x1x128x1024.size (inb_b n)).toLoadRect.idx j))

/-- Tile `n % 8` of chunk `n / 8`, as it is stored. -/
def tile (u : Vec F S1x256x1024 .bf16) (b : Vec F S1x8x128x1024 .bf16) (n : ℕ) : FVec F S1x256x128 .f32 :=
  shapeCast S1x256x128 (extractStridedSlice S256x128 ![0, 128 * (n % 8)] (bu u b n) (slices_t n)) shapeCasts_S256x128_S1x256x128

/-! ## The scratch, tile by tile -/

/-- What tile `x 0` of chunk `x 1 / 264` has at `x`. -/
def buAt (u : Vec F S1x256x1024 .bf16) (b : Vec F S1x8x128x1024 .bf16) (x : S8x2112x128.Idx) : F .f32 :=
  bu u b (8 * ((x 1).val / 264) + (x 0).val)
    (ix2 ⟨(x 1).val % 264 % 256, Nat.mod_lt _ (by decide)⟩
      ⟨128 * (x 0).val + (x 2).val, by have h0 : (x 0).val < 8 := (x 0).isLt; have h2 : (x 2).val < 128 := (x 2).isLt; omega⟩)

/-- The first `n` tiles are stored. -/
def Fills (u : Vec F S1x256x1024 .bf16) (b : Vec F S1x8x128x1024 .bf16) (n : ℕ) (s : Vec F S8x2112x128 .f32) : Prop :=
  ∀ x : S8x2112x128.Idx, (x 1).val % 264 < 256 → 8 * ((x 1).val / 264) + (x 0).val < n → s x = buAt u b x

theorem tile_apply (u : Vec F S1x256x1024 .bf16) (b : Vec F S1x8x128x1024 .bf16) (n : ℕ) (j : S1x256x128.Idx) :
    tile u b n j = bu u b n (ix2 (j 1) ⟨128 * (n % 8) + (j 2).val, by have h2 : (j 2).val < 128 := (j 2).isLt; omega⟩) := by
  unfold tile
  generalize bu u b n = w
  pointwise

theorem fills_put {u : Vec F S1x256x1024 .bf16} {b : Vec F S1x8x128x1024 .bf16} {n : ℕ} (hn : n < 64) {s : Vec F S8x2112x128 .f32}
    (h : Fills u b n s) :
    Fills u b (n + 1) (put (Rect.unit (s := S8x2112x128) ![n % 8, 264 * (n / 8 % 8), 0] S1x256x128.size (inb_t n)) (tile u b n) s) := by
  intro x hx hlt
  have h0 : (x 0).val < 8 := (x 0).isLt
  have h1 : (x 1).val < 2112 := (x 1).isLt
  have h2 : (x 2).val < 128 := (x 2).isLt
  by_cases he : 8 * ((x 1).val / 264) + (x 0).val = n
  · rw [put_hit (Rect.unit (s := S8x2112x128) ![n % 8, 264 * (n / 8 % 8), 0] S1x256x128.size (inb_t n)) (tile u b n) s
      (ix3 (0 : Fin 1) ⟨(x 1).val % 264, hx⟩ ⟨(x 2).val, h2⟩) x, tile_apply]
    · unfold buAt
      rw [he]
      refine congrArg (bu u b n) (funext fun a => Fin.ext ?_)
      fin_cases a
      · show (x 1).val % 264 = (x 1).val % 264 % 256; omega
      · show 128 * (n % 8) + (x 2).val = 128 * (x 0).val + (x 2).val; omega
    · intro a
      fin_cases a
      · show (x 0).val = n % 8 + 1 * 0; omega
      · show (x 1).val = 264 * (n / 8 % 8) + 1 * ((x 1).val % 264); omega
      · show (x 2).val = 0 + 1 * (x 2).val; omega
  · rw [put_miss]
    · exact h x hx (by omega)
    · rw [Rect.mem_set_unit]
      intro hm
      have m0 := hm 0
      have m1 := hm 1
      simp [S1x256x128] at m0 m1
      omega

theorem Run.tile {u : Vec F S1x256x1024 .bf16} {b : Vec F S1x8x128x1024 .bf16} {n : ℕ} {s : Vec F S8x2112x128 .f32} (h : Fills u b n s)
    (hn : n < 64) {st : Vec F S8x8x128 .f32} {o : Vec F S1x1x256x1024 .f32} {β : Type}
    {w : S1x256x128.Idx → Elt F .f32} {off : Fin 3 → ℕ} {hoff : ∀ a, off a + S1x256x128.size a ≤ S8x2112x128.size a}
    {hx : (M.arg10.access (Rect.unit (s := S8x2112x128) off S1x256x128.size hoff)).Stores Finset.univ}
    {hs : Finset.univ = Finset.univ ∨ ∀ a, (Rect.unit (s := S8x2112x128) off S1x256x128.size hoff).stride a = 1}
    (ho : off = ![n % 8, 264 * (n / 8 % 8), 0]) (hw : w = tile u b n)
    {k : PUnit → Prog (TpuEff nD τ sig (Elt F) Λ₀ .tc) β} {Q : β → St F → Prop}
    (hk : ∀ s', Fills u b (n + 1) s' → Run (defs₀ (F := F)) Variants.none (c : Thread nD τ) none (Held c M X) (k ⟨⟩) ⟨s', st, o⟩ Q) :
    Run (defs₀ (F := F)) Variants.none (c : Thread nD τ) none (Held c M X)
      (Prog.lift (.store M.arg10 (Rect.unit (s := S8x2112x128) off S1x256x128.size hoff) w Finset.univ hx hs) >>= k) ⟨s, st, o⟩ Q := by
  subst ho hw
  exact Run.store (wr10 c M X) (hk _ (fills_put hn h))

end Cert.S5Ideal.Body

end
-- ==== Proof.S5Fills.lean ====
/- The scan kernel's two fills of the scratch (one per source of rows), each the parts of the body that store the tiles
   of the input's product one after another. -/
module

public import proofs.«01_k».proof.Proof.S5Fill

@[expose] public section

set_option maxRecDepth 16384

noncomputable section

namespace Cert.S5Ideal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.S5Ideal Cert.S5Ideal.Gen S5Run

variable {F : FTy → Type} [FloatOps F]
variable (c : Dev nD) (M : Mems) (X : Ins F)

theorem inb_l (m : ℕ) : ∀ a, (![0, m % 4, 0, 0] : Fin 4 → ℕ) a + S1x1x8x128.size a ≤ S1x4x8x128.size a := by
  intro a; fin_cases a <;> simp [S1x1x8x128, S1x4x8x128]; omega

/-- The real parts of the decays of state quarter `m`. -/
def lr (m : ℕ) : FVec F S8x128 .f32 :=
  k0_pay194 fun j => X.x7 ((Rect.unit (s := S1x4x8x128) ![0, m % 4, 0, 0] S1x1x8x128.size (inb_l m)).toLoadRect.idx j)

/-- The imaginary parts of the decays of state quarter `m`. -/
def li (m : ℕ) : FVec F S8x128 .f32 :=
  k0_pay194 fun j => X.x8 ((Rect.unit (s := S1x4x8x128) ![0, m % 4, 0, 0] S1x1x8x128.size (inb_l m)).toLoadRect.idx j)

theorem put_zero (st : Vec F S8x8x128 .f32) (h) :
    put (Rect.unit (s := S8x8x128) ![0, 0, 0] S8x8x128.size h) (k0_pay189 (F := F)) st = k0_pay189 (F := F) := by
  funext x
  refine put_hit (Rect.unit (s := S8x8x128) ![0, 0, 0] S8x8x128.size h) _ _ x x fun a => ?_
  fin_cases a
  · show (x 0).val = 0 + 1 * (x 0).val; omega
  · show (x 1).val = 0 + 1 * (x 1).val; omega
  · show (x 2).val = 0 + 1 * (x 2).val; omega

theorem first_pos : ∀ n : Fin (grid0.bound 2), n.val = 0 →
    Scalar.cmpi .ne (Scalar.extui (Scalar.cmpi .eq (BitVec.ofNat 32 n.val) 0#32) : BitVec 32) 0#32 = 1#1 := by decide +kernel

theorem first_neg : ∀ n : Fin (grid0.bound 2), n.val ≠ 0 →
    ¬ Scalar.cmpi .ne (Scalar.extui (Scalar.cmpi .eq (BitVec.ofNat 32 n.val) 0#32) : BitVec 32) 0#32 = 1#1 := by decide +kernel

theorem ctx_pos : ∀ n : Fin (grid0.bound 2), n.val = 0 →
    Scalar.cmpi .ne (Scalar.extui (Scalar.cmpi .slt (BitVec.ofNat 32 n.val) 1#32) : BitVec 32) 0#32 = 1#1 := by decide +kernel

theorem ctx_neg : ∀ n : Fin (grid0.bound 2), n.val ≠ 0 →
    ¬ Scalar.cmpi .ne (Scalar.extui (Scalar.cmpi .slt (BitVec.ofNat 32 n.val) 1#32) : BitVec 32) 0#32 = 1#1 := by decide +kernel

theorem lat_pos : ∀ n : Fin (grid0.bound 2), n.val ≠ 0 →
    Scalar.cmpi .ne (Scalar.extui (Scalar.cmpi .sge (BitVec.ofNat 32 n.val) 1#32) : BitVec 32) 0#32 = 1#1 := by decide +kernel

theorem lat_neg : ∀ n : Fin (grid0.bound 2), n.val = 0 →
    ¬ Scalar.cmpi .ne (Scalar.extui (Scalar.cmpi .sge (BitVec.ofNat 32 n.val) 1#32) : BitVec 32) 0#32 = 1#1 := by decide +kernel

/-- What the first stretch hands on: the two program coordinates and the decays it has loaded. -/
def Loaded (i : grid0.Coords) : Σ' (_ : BitVec 32) (_ : BitVec 32) (_ : FVec F S8x128 .f32) (_ : FVec F S8x128 .f32) (_ : FVec F S8x128 .f32)
    (_ : FVec F S8x128 .f32) (_ : FVec F S8x128 .f32), FVec F S8x128 .f32 :=
  ⟨BitVec.ofNat 32 (i 0).val, BitVec.ofNat 32 (i 2).val, lr X 0, lr X 1, lr X 2, lr X 3, li X 0, li X 1⟩

/-- The rows a point takes: the context's at a pass's first point, the latents' after. -/
def rowsIn (i : grid0.Coords) : Vec F S1x256x1024 .bf16 := if (i 2).val = 0 then X.x3 else X.x4

/-- The state a point starts from: zero at a pass's first point, the carried one after. -/
def stIn (i : grid0.Coords) (st : Vec F S8x8x128 .f32) : Vec F S8x8x128 .f32 := if (i 2).val = 0 then k0_pay189 (F := F) else st

/-- The first stretch: the carried state is cleared at a pass's first point, and the scratch filled with the products of
    the point's rows. -/
theorem run_fill (i : grid0.Coords) (s : Vec F S8x2112x128 .f32) (st : Vec F S8x8x128 .f32) (o : Vec F S1x1x256x1024 .f32) :
    Run (defs₀ (F := F)) Variants.none (c : Thread nD τ) none (Held c M X)
      (k0_part30 i M.arg3 M.h3 M.arg4 M.h4 M.arg5 M.h5 M.arg6 M.h6 M.arg7 M.h7 M.arg8 M.h8 M.arg9 M.h9 M.arg10 M.h10 M.arg11 M.h11)
      ⟨s, st, o⟩ (fun a σ => a = Loaded X i ∧ Fills (rowsIn X i) X.x5 64 σ.s ∧ σ.st = stIn i st ∧ σ.o = o) := by
  have h : Fills (rowsIn X i) X.x5 0 s := fun x _ hx => absurd hx (by omega)
  rw [k0_part30_eq_skeleton, k0_part30_skel]
  by_cases hi : (i 2).val = 0
  on_goal 1 =>
    rw [rowsIn, if_pos hi] at h ⊢
    rw [stIn, if_pos hi]
    with_reducible refine Run.dite_pos (first_pos (i 2) hi) ?_
    with_reducible refine Run.load (rd11 c M X) ?_
    with_reducible refine Run.store (wr11 c M X) ?_
    rw [put_zero]
    with_reducible refine Run.dite_pos (ctx_pos (i 2) hi) ?_
  on_goal 2 =>
    rw [rowsIn, if_neg hi] at h ⊢
    rw [stIn, if_neg hi]
    with_reducible refine Run.dite_neg (first_neg (i 2) hi) ?_
    with_reducible refine Run.dite_neg (ctx_neg (i 2) hi) ?_
    with_reducible refine Run.dite_pos (lat_pos (i 2) hi) ?_
  all_goals
    repeat first
      | with_reducible refine Run.load (rd10 c M X) ?_
      | (with_reducible refine Run.tile c M X h ?hn ?ho ?hw fun s' h' => ?_
         case hn => decide
         case ho => rfl
         case hw => rfl
         clear h
         rename' h' => h)
      | with_reducible refine Run.load (rd3 c M X) ?_
      | with_reducible refine Run.load (rd4 c M X) ?_
      | with_reducible refine Run.load (rd5 c M X) ?_
      | with_reducible refine Run.ret ?_
      | with_reducible refine Run.dite_neg (lat_neg (i 2) hi) ?_
      | with_reducible refine Run.load (rd7 c M X) ?_
      | with_reducible refine Run.load (rd8 c M X) ?_
      | with_reducible refine Run.seq ?_
      | rw [k0_part1_eq_skeleton, k0_part1_skel]
      | rw [k0_part2_eq_skeleton, k0_part2_skel]
      | rw [k0_part3_eq_skeleton, k0_part3_skel]
      | rw [k0_part4_eq_skeleton, k0_part4_skel]
      | rw [k0_part5_eq_skeleton, k0_part5_skel]
      | rw [k0_part6_eq_skeleton, k0_part6_skel]
      | rw [k0_part7_eq_skeleton, k0_part7_skel]
      | rw [k0_part8_eq_skeleton, k0_part8_skel]
      | rw [k0_part9_eq_skeleton, k0_part9_skel]
      | rw [k0_part10_eq_skeleton, k0_part10_skel]
      | rw [k0_part11_eq_skeleton, k0_part11_skel]
      | rw [k0_part12_eq_skeleton, k0_part12_skel]
      | rw [k0_part13_eq_skeleton, k0_part13_skel]
      | rw [k0_part14_eq_skeleton, k0_part14_skel]
      | rw [k0_part15_eq_skeleton, k0_part15_skel]
      | rw [k0_part16_eq_skeleton, k0_part16_skel]
      | rw [k0_part17_eq_skeleton, k0_part17_skel]
      | rw [k0_part18_eq_skeleton, k0_part18_skel]
      | rw [k0_part19_eq_skeleton, k0_part19_skel]
      | rw [k0_part20_eq_skeleton, k0_part20_skel]
    exact ⟨rfl, h, rfl, rfl⟩

end Cert.S5Ideal.Body

end
-- ==== Proof.S5Loop.lean ====
/- The scan kernel's loop over the 256 rows of a point: a trip reads one row of each of the scratch's eight tiles, moves
   the state by it and puts the state in the row's place. -/
module

public import proofs.«01_k».proof.Proof.S5Fills

@[expose] public section

set_option maxRecDepth 16384

noncomputable section

namespace Cert.S5Ideal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.S5Ideal Cert.S5Ideal.Gen S5Run

variable {F : FTy → Type} [FloatOps F]
variable (c : Dev nD) (M : Mems) (X : Ins F)

/-- The row trip `q` takes: forwards for the first direction, backwards for the second. -/
def row (d q : ℕ) : ℕ := if d = 0 then q else 255 - q

theorem row_lt (d : ℕ) {q : ℕ} (hq : q < 256) : row d q < 256 := by unfold row; split <;> omega

theorem row_row (d : ℕ) {q : ℕ} (hq : q < 256) : row d (row d q) = q := by unfold row; split <;> omega

theorem row_eq : ∀ (d : Fin (grid0.bound 0)) (t : Fin k0_t1_loop.trips),
    (Scalar.indexCast (Scalar.select (Scalar.cmpi .eq (BitVec.ofNat 32 d.val) 0#32) (Scf.iv 0#32 1#32 t)
      (Scalar.subi 255#32 (Scf.iv 0#32 1#32 t))) : Index).toNat = row d.val t.val := by decide +kernel

theorem off1 (i : grid0.Coords) (t : Fin k0_t1_loop.trips) : k0_off1 i t = ![0, row (i 0).val t.val, 0] :=
  congrArg (fun n => ![0, n, 0]) (row_eq (i 0) t)
theorem off2 (i : grid0.Coords) (t : Fin k0_t1_loop.trips) : k0_off2 i t = ![4, row (i 0).val t.val, 0] :=
  congrArg (fun n => ![4, n, 0]) (row_eq (i 0) t)
theorem off3 (i : grid0.Coords) (t : Fin k0_t1_loop.trips) : k0_off3 i t = ![1, row (i 0).val t.val, 0] :=
  congrArg (fun n => ![1, n, 0]) (row_eq (i 0) t)
theorem off4 (i : grid0.Coords) (t : Fin k0_t1_loop.trips) : k0_off4 i t = ![5, row (i 0).val t.val, 0] :=
  congrArg (fun n => ![5, n, 0]) (row_eq (i 0) t)
theorem off5 (i : grid0.Coords) (t : Fin k0_t1_loop.trips) : k0_off5 i t = ![2, row (i 0).val t.val, 0] :=
  congrArg (fun n => ![2, n, 0]) (row_eq (i 0) t)
theorem off6 (i : grid0.Coords) (t : Fin k0_t1_loop.trips) : k0_off6 i t = ![6, row (i 0).val t.val, 0] :=
  congrArg (fun n => ![6, n, 0]) (row_eq (i 0) t)
theorem off7 (i : grid0.Coords) (t : Fin k0_t1_loop.trips) : k0_off7 i t = ![3, row (i 0).val t.val, 0] :=
  congrArg (fun n => ![3, n, 0]) (row_eq (i 0) t)
theorem off8 (i : grid0.Coords) (t : Fin k0_t1_loop.trips) : k0_off8 i t = ![7, row (i 0).val t.val, 0] :=
  congrArg (fun n => ![7, n, 0]) (row_eq (i 0) t)

/-- Row `r` of tile `m` of the products, one lane row per chunk. -/
def gRow (u : Vec F S1x256x1024 .bf16) (b : Vec F S1x8x128x1024 .bf16) (r m : ℕ) : S1x8x128.Idx → F .f32 := fun j =>
  buAt u b (ix3 ⟨m % 8, Nat.mod_lt _ (by decide)⟩
    ⟨r % 256 + 264 * (j 1).val, by have h1 : (j 1).val < 8 := (j 1).isLt; have := Nat.mod_lt r (show 0 < 256 by decide); omega⟩ (j 2))

theorem inb_st (m : ℕ) : ∀ a, (![m % 8, 0, 0] : Fin 3 → ℕ) a + S1x8x128.size a ≤ S8x8x128.size a := by
  intro a; fin_cases a <;> simp [S1x8x128, S8x8x128]; omega

/-- The state after `q` rows: real parts in the first four quarters, imaginary parts in the other four. -/
def Sx (d : ℕ) (u : Vec F S1x256x1024 .bf16) (st : Vec F S8x8x128 .f32) : ℕ → ℕ → FVec F S8x128 .f32
  | 0, m => k0_pay202 fun j => st ((Rect.unit (s := S8x8x128) ![m % 8, 0, 0] S1x8x128.size (inb_st m)).toLoadRect.idx j)
  | q + 1, m =>
    if m < 4 then k0_pay160 (lr X m) (li X m) (Sx d u st q m) (Sx d u st q (m + 4)) (gRow u X.x5 (row d q) m)
    else k0_pay161 (lr X (m - 4)) (li X (m - 4)) (Sx d u st q (m - 4)) (Sx d u st q m) (gRow u X.x5 (row d q) m)

/-- One state quarter as a one-tile block. -/
def up (w : FVec F S8x128 .f32) : FVec F S1x8x128 .f32 := shapeCast S1x8x128 w shapeCasts_S8x128_S1x8x128

theorem up_apply (w : FVec F S8x128 .f32) (j : S1x8x128.Idx) : up w j = w (ix2 (j 1) (j 2)) := by
  unfold up
  pointwise

/-- Trip `q` has stored the tiles of `L`; the rows before it are done, the rows after still the products. -/
def Tr (d : ℕ) (u : Vec F S1x256x1024 .bf16) (st : Vec F S8x8x128 .f32) (q : ℕ) (L : List ℕ) (s : Vec F S8x2112x128 .f32) : Prop :=
  ∀ x : S8x2112x128.Idx, (x 1).val % 264 < 256 →
    s x = if row d ((x 1).val % 264) < q ∨ (row d ((x 1).val % 264) = q ∧ (x 0).val ∈ L)
      then Sx X d u st (row d ((x 1).val % 264) + 1) (x 0).val
        (ix2 ⟨(x 1).val / 264, by have h1 : (x 1).val < 2112 := (x 1).isLt; omega⟩ (x 2))
      else buAt u X.x5 x

variable {X} {d : ℕ} {u : Vec F S1x256x1024 .bf16} {st0 : Vec F S8x8x128 .f32} {q : ℕ} {L : List ℕ} {s : Vec F S8x2112x128 .f32}

theorem Tr.load (h : Tr X d u st0 q L s) (hq : q < 256) {m : ℕ} (hm : m < 8) (hL : m ∉ L) (hin) :
    (fun j => s ((⟨![m, row d q, 0], S1x8x128.size, ![1, 264, 1], hin⟩ : LoadRect S8x2112x128).idx j)) = gRow u X.x5 (row d q) m := by
  funext j
  have h0 : (j 0).val < 1 := (j 0).isLt
  have h1 : (j 1).val < 8 := (j 1).isLt
  have hr := row_lt d hq
  have e : (⟨![m, row d q, 0], S1x8x128.size, ![1, 264, 1], hin⟩ : LoadRect S8x2112x128).idx j
      = ix3 ⟨m % 8, Nat.mod_lt _ (by decide)⟩ ⟨row d q % 256 + 264 * (j 1).val, by omega⟩ (j 2) := by
    funext a
    refine Fin.ext ?_
    fin_cases a
    · show m + 1 * (j 0).val = m % 8; omega
    · show row d q + 264 * (j 1).val = row d q % 256 + 264 * (j 1).val; omega
    · show 0 + 1 * (j 2).val = (j 2).val; omega
  have hx : (row d q % 256 + 264 * (j 1).val) % 264 = row d q := by omega
  refine (congrArg s e).trans ((h _ (show (row d q % 256 + 264 * (j 1).val) % 264 < 256 by omega)).trans (if_neg ?_))
  show ¬(row d ((row d q % 256 + 264 * (j 1).val) % 264) < q ∨ (row d ((row d q % 256 + 264 * (j 1).val) % 264) = q ∧ m % 8 ∈ L))
  rw [hx, row_row d hq, Nat.mod_eq_of_lt hm]
  rintro (h | ⟨-, h⟩)
  · exact absurd h (lt_irrefl _)
  · exact hL h

theorem Tr.put (h : Tr X d u st0 q L s) (hq : q < 256) {m : ℕ} (hm : m < 8) (hin) (hpos) :
    Tr X d u st0 q (m :: L) (put ⟨(⟨![m, row d q, 0], S1x8x128.size, ![1, 264, 1], hin⟩ : LoadRect S8x2112x128), hpos⟩
      (up (Sx X d u st0 (q + 1) m)) s) := by
  intro x hx
  have h0 : (x 0).val < 8 := (x 0).isLt
  have h1 : (x 1).val < 2112 := (x 1).isLt
  have h2 : (x 2).val < 128 := (x 2).isLt
  by_cases he : (x 0).val = m ∧ (x 1).val % 264 = row d q
  · rw [put_hit ⟨(⟨![m, row d q, 0], S1x8x128.size, ![1, 264, 1], hin⟩ : LoadRect S8x2112x128), hpos⟩ _ s
      (ix3 (0 : Fin 1) (⟨(x 1).val / 264, by omega⟩ : Fin 8) (x 2)) x, up_apply, if_pos]
    · rw [he.1, he.2, row_row d hq]
      rfl
    · rw [he.1, he.2, row_row d hq]
      exact .inr ⟨rfl, List.mem_cons_self⟩
    · intro a
      fin_cases a
      · show (x 0).val = m + 1 * 0; omega
      · show (x 1).val = row d q + 264 * ((x 1).val / 264); omega
      · show (x 2).val = 0 + 1 * (x 2).val; omega
  · rw [put_miss, h x hx]
    · refine if_congr (or_congr Iff.rfl (and_congr_right fun hr => ?_)) rfl rfl
      rw [List.mem_cons]
      refine ⟨.inr, fun ho => ho.resolve_left fun e => he ⟨e, ?_⟩⟩
      rw [← hr, row_row d hx]
    · rw [LoadRect.mem_set]
      intro hmem
      obtain ⟨j0, hj0, e0⟩ := hmem 0
      obtain ⟨j1, hj1, e1⟩ := hmem 1
      have hr := row_lt d hq
      have hj0' : j0 < 1 := hj0
      have hj1' : j1 < 8 := hj1
      have e0' : (x 0).val = m + 1 * j0 := e0
      have e1' : (x 1).val = row d q + 264 * j1 := e1
      exact he ⟨by omega, by omega⟩

/-- A trip that has stored all eight tiles is done. -/
theorem Tr.next (h : Tr X d u st0 q L s) (hL : ∀ m < 8, m ∈ L) : Tr X d u st0 (q + 1) [] s := by
  intro x hx
  rw [h x hx]
  refine if_congr ?_ rfl rfl
  have := hL (x 0).val (x 0).isLt
  simp only [this, and_true, List.not_mem_nil, and_false, or_false]
  omega

variable {c M}

theorem Run.loadRow (h : Tr X d u st0 q L s) (hq : q < 256) {m : ℕ} (hm : m < 8) (hL : m ∉ L) {st : Vec F S8x8x128 .f32}
    {o : Vec F S1x1x256x1024 .f32} {β : Type} {off : Fin 3 → ℕ} {hin} {hl} (ho : off = ![m, row d q, 0])
    {k : (S1x8x128.Idx → Elt F .f32) → Prog (TpuEff nD τ sig (Elt F) Λ₀ .tc) β} {Q : β → St F → Prop}
    (hk : Run (defs₀ (F := F)) Variants.none (c : Thread nD τ) none (Held c M X) (k (gRow u X.x5 (row d q) m)) ⟨s, st, o⟩ Q) :
    Run (defs₀ (F := F)) Variants.none (c : Thread nD τ) none (Held c M X)
      (Prog.lift (.load M.arg10 (⟨off, S1x8x128.size, ![1, 264, 1], hin⟩ : LoadRect S8x2112x128) hl) >>= k) ⟨s, st, o⟩ Q := by
  subst ho
  refine Run.load (rd10 c M X) ?_
  rw [← h.load hq hm hL hin] at hk
  exact hk

theorem Run.storeRow (h : Tr X d u st0 q L s) (hq : q < 256) {m : ℕ} (hm : m < 8) {st : Vec F S8x8x128 .f32}
    {o : Vec F S1x1x256x1024 .f32} {β : Type} {off : Fin 3 → ℕ} {hin} {hpos} {w : S1x8x128.Idx → Elt F .f32} {hx} {hs}
    (ho : off = ![m, row d q, 0]) (hw : w = up (Sx X d u st0 (q + 1) m))
    {k : PUnit → Prog (TpuEff nD τ sig (Elt F) Λ₀ .tc) β} {Q : β → St F → Prop}
    (hk : ∀ s', Tr X d u st0 q (m :: L) s' →
      Run (defs₀ (F := F)) Variants.none (c : Thread nD τ) none (Held c M X) (k ⟨⟩) ⟨s', st, o⟩ Q) :
    Run (defs₀ (F := F)) Variants.none (c : Thread nD τ) none (Held c M X)
      (Prog.lift (.store M.arg10 (⟨(⟨off, S1x8x128.size, ![1, 264, 1], hin⟩ : LoadRect S8x2112x128), hpos⟩ : Rect S8x2112x128) w
        Finset.univ hx hs) >>= k) ⟨s, st, o⟩ Q := by
  subst ho hw
  exact Run.store (wr10 c M X) (hk _ (h.put hq hm hin hpos))

/-- The eight state quarters after `q` rows, as the loop carries them. -/
def carry (X : Ins F) (d : ℕ) (u : Vec F S1x256x1024 .bf16) (st : Vec F S8x8x128 .f32) (q : ℕ) :
    FVec F S8x128 .f32 × FVec F S8x128 .f32 × FVec F S8x128 .f32 × FVec F S8x128 .f32 × FVec F S8x128 .f32 × FVec F S8x128 .f32
      × FVec F S8x128 .f32 × FVec F S8x128 .f32 :=
  (Sx X d u st q 0, Sx X d u st q 1, Sx X d u st q 2, Sx X d u st q 3, Sx X d u st q 4, Sx X d u st q 5, Sx X d u st q 6, Sx X d u st q 7)

/-- The imaginary parts of quarter `m`'s decays, as loaded. -/
def ld8 (X : Ins F) (m : ℕ) : Vec F S1x1x8x128 .f32 :=
  fun j => X.x8 ((Rect.unit (s := S1x4x8x128) ![0, m % 4, 0, 0] S1x1x8x128.size (inb_l m)).toLoadRect.idx j)

theorem run_trip (i : grid0.Coords) (t : Fin k0_t1_loop.trips) (hq : t.val < 256) {st : Vec F S8x8x128 .f32}
    {o : Vec F S1x1x256x1024 .f32} (h : Tr X (i 0).val u st0 t.val [] s) :
    Run (defs₀ (F := F)) Variants.none (c : Thread nD τ) none (Held c M X)
      (k0_t1_body i M.arg3 M.h3 M.arg4 M.h4 M.arg5 M.h5 M.arg6 M.h6 M.arg7 M.h7 M.arg8 M.h8 M.arg9 M.h9 M.arg10 M.h10 M.arg11 M.h11
        (BitVec.ofNat 32 (i 0).val) (lr X 0) (lr X 1) (lr X 2) (lr X 3) (li X 0) (li X 1) (ld8 X 2) (ld8 X 3) t
        (carry X (i 0).val u st0 t.val))
      ⟨s, st, o⟩ (fun a σ => a = carry X (i 0).val u st0 (t.val + 1) ∧ Tr X (i 0).val u st0 (t.val + 1) [] σ.s ∧ σ.st = st ∧ σ.o = o) := by
  unfold k0_t1_body carry
  repeat first
    | with_reducible refine Run.loadRow h hq (m := 0) (by decide) (by decide) (off1 i t) ?_
    | with_reducible refine Run.loadRow h hq (m := 4) (by decide) (by decide) (off2 i t) ?_
    | with_reducible refine Run.loadRow h hq (m := 1) (by decide) (by decide) (off3 i t) ?_
    | with_reducible refine Run.loadRow h hq (m := 5) (by decide) (by decide) (off4 i t) ?_
    | with_reducible refine Run.loadRow h hq (m := 2) (by decide) (by decide) (off5 i t) ?_
    | with_reducible refine Run.loadRow h hq (m := 6) (by decide) (by decide) (off6 i t) ?_
    | with_reducible refine Run.loadRow h hq (m := 3) (by decide) (by decide) (off7 i t) ?_
    | with_reducible refine Run.loadRow h hq (m := 7) (by decide) (by decide) (off8 i t) ?_
    | (first
        | with_reducible refine Run.storeRow h hq (m := 0) (by decide) (off1 i t) ?hw fun s' h' => ?_
        | with_reducible refine Run.storeRow h hq (m := 4) (by decide) (off2 i t) ?hw fun s' h' => ?_
        | with_reducible refine Run.storeRow h hq (m := 1) (by decide) (off3 i t) ?hw fun s' h' => ?_
        | with_reducible refine Run.storeRow h hq (m := 5) (by decide) (off4 i t) ?hw fun s' h' => ?_
        | with_reducible refine Run.storeRow h hq (m := 2) (by decide) (off5 i t) ?hw fun s' h' => ?_
        | with_reducible refine Run.storeRow h hq (m := 6) (by decide) (off6 i t) ?hw fun s' h' => ?_
        | with_reducible refine Run.storeRow h hq (m := 3) (by decide) (off7 i t) ?hw fun s' h' => ?_
        | with_reducible refine Run.storeRow h hq (m := 7) (by decide) (off8 i t) ?hw fun s' h' => ?_
       case hw => rfl
       clear h
       rename' h' => h)
    | with_reducible refine Run.ret ?_
    | with_reducible refine Run.seq ?_
    | rw [k0_part21_eq_skeleton, k0_part21_skel]
    | rw [k0_part22_eq_skeleton, k0_part22_skel]
  exact ⟨rfl, h.next (by decide), rfl, rfl⟩

end Cert.S5Ideal.Body

end
-- ==== Proof.S5Body.lean ====
/- The scan kernel's whole body as one run: from the windows' contents and the carried state to the state after the
   point's rows and, where the point writes back, the output block. -/
module

public import proofs.«01_k».proof.Proof.S5Loop

@[expose] public section

set_option maxRecDepth 16384

noncomputable section

namespace Cert.S5Ideal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.S5Ideal Cert.S5Ideal.Gen S5Run

variable {F : FTy → Type} [FloatOps F]
variable {c : Dev nD} {M : Mems} {X : Ins F}

theorem Fills.tr {d : ℕ} {u : Vec F S1x256x1024 .bf16} {st0 : Vec F S8x8x128 .f32} {s : Vec F S8x2112x128 .f32}
    (h : Fills u X.x5 64 s) : Tr X d u st0 0 [] s := by
  intro x hx
  have h0 : (x 0).val < 8 := (x 0).isLt
  have h1 : (x 1).val < 2112 := (x 1).isLt
  rw [h x hx (by omega), if_neg (by simp)]

theorem trips_eq : k0_t1_loop.trips = 256 := by decide +kernel

/-- The second stretch: the state is loaded, the loop run. -/
theorem run_scan (i : grid0.Coords) {u : Vec F S1x256x1024 .bf16} {s : Vec F S8x2112x128 .f32} (st : Vec F S8x8x128 .f32)
    (o : Vec F S1x1x256x1024 .f32) (h : Tr X (i 0).val u st 0 [] s) :
    Run (defs₀ (F := F)) Variants.none (c : Thread nD τ) none (Held c M X)
      (k0_part31 i M.arg3 M.h3 M.arg4 M.h4 M.arg5 M.h5 M.arg6 M.h6 M.arg7 M.h7 M.arg8 M.h8 M.arg9 M.h9 M.arg10 M.h10 M.arg11 M.h11
        (BitVec.ofNat 32 (i 0).val) (lr X 0) (lr X 1) (lr X 2) (lr X 3) (li X 0) (li X 1))
      ⟨s, st, o⟩ (fun a σ => a = ⟨Sx X (i 0).val u st 256 0, Sx X (i 0).val u st 256 1, Sx X (i 0).val u st 256 2,
        Sx X (i 0).val u st 256 3, Sx X (i 0).val u st 256 4, Sx X (i 0).val u st 256 5, Sx X (i 0).val u st 256 6,
        Sx X (i 0).val u st 256 7⟩ ∧ Tr X (i 0).val u st 256 [] σ.s ∧ σ.st = st ∧ σ.o = o) := by
  rw [k0_part31_eq_skeleton, k0_part31_skel]
  repeat first
    | with_reducible refine Run.load (rd8 c M X) ?_
    | with_reducible refine Run.load (rd11 c M X) ?_
  refine Run.for k0_t1_loop k0_t1_ok
    (fun q a σ => a = carry X (i 0).val u st q ∧ Tr X (i 0).val u st q [] σ.s ∧ σ.st = st ∧ σ.o = o)
    ⟨rfl, h, rfl, rfl⟩ ?_ ?_
  · rintro t a ⟨s', st', o'⟩ ⟨rfl, hT, h1, h2⟩
    obtain rfl : st' = st := h1
    obtain rfl : o' = o := h2
    exact run_trip i t (lt_of_lt_of_eq t.isLt trips_eq) hT
  · rintro a ⟨s', st', o'⟩ ⟨rfl, hT, h1, h2⟩
    obtain rfl : st' = st := h1
    obtain rfl : o' = o := h2
    rw [trips_eq] at hT ⊢
    unfold carry
    with_reducible refine Run.load (rd11 c M X) ?_
    with_reducible refine Run.ret ?_
    exact ⟨rfl, hT, rfl, rfl⟩

/-- The state after a point's rows. -/
def stOut (X : Ins F) (d : ℕ) (u : Vec F S1x256x1024 .bf16) (st0 : Vec F S8x8x128 .f32) : Vec F S8x8x128 .f32 :=
  fun x => Sx X d u st0 256 (x 0).val (ix2 (x 1) (x 2))

/-- The state quarters of `L` are stored. -/
def SFills (X : Ins F) (d : ℕ) (u : Vec F S1x256x1024 .bf16) (st0 : Vec F S8x8x128 .f32) (L : List ℕ) (st : Vec F S8x8x128 .f32) : Prop :=
  ∀ x : S8x8x128.Idx, (x 0).val ∈ L → st x = stOut X d u st0 x

variable {d : ℕ} {u : Vec F S1x256x1024 .bf16} {st0 : Vec F S8x8x128 .f32} {L : List ℕ}

theorem Run.storeState {st : Vec F S8x8x128 .f32} (h : SFills X d u st0 L st) {s : Vec F S8x2112x128 .f32}
    {o : Vec F S1x1x256x1024 .f32} {β : Type} {off : Fin 3 → ℕ} {hoff} {w : S1x8x128.Idx → Elt F .f32} {hx} {hs}
    (h1 : off 1 = 0) (h2 : off 2 = 0) (hw : w = up (Sx X d u st0 256 (off 0)))
    {k : PUnit → Prog (TpuEff nD τ sig (Elt F) Λ₀ .tc) β} {Q : β → St F → Prop}
    (hk : ∀ st', SFills X d u st0 (off 0 :: L) st' →
      Run (defs₀ (F := F)) Variants.none (c : Thread nD τ) none (Held c M X) (k ⟨⟩) ⟨s, st', o⟩ Q) :
    Run (defs₀ (F := F)) Variants.none (c : Thread nD τ) none (Held c M X)
      (Prog.lift (.store M.arg11 (Rect.unit (s := S8x8x128) off S1x8x128.size hoff) w Finset.univ hx hs) >>= k) ⟨s, st, o⟩ Q := by
  subst hw
  refine Run.store (wr11 c M X) (hk _ fun x hm => ?_)
  by_cases he : (x 0).val = off 0
  · have e := put_hit (Rect.unit (s := S8x8x128) off S1x8x128.size hoff) (up (Sx X d u st0 256 (off 0))) st
      (ix3 (0 : Fin 1) (x 1) (x 2)) x fun a => by
        fin_cases a
        · show (x 0).val = off 0 + 1 * 0; omega
        · show (x 1).val = off 1 + 1 * (x 1).val; omega
        · show (x 2).val = off 2 + 1 * (x 2).val; omega
    refine e.trans ?_
    rw [up_apply, ← he]
    rfl
  · refine (put_miss _ _ _ x ?_).trans (h x ((List.mem_cons.mp hm).resolve_left he))
    rw [Rect.mem_set_unit]
    intro hm
    have m0 := hm 0
    have m0' : off 0 ≤ (x 0).val ∧ (x 0).val < off 0 + 1 := m0
    omega

/-! ## The output block -/

theorem inb_y (m k : ℕ) : ∀ a, (![m % 8, 264 * (k % 8), 0] : Fin 3 → ℕ) a + S1x256x128.size a ≤ S8x2112x128.size a := by
  intro a; fin_cases a <;> simp [S1x256x128, S8x2112x128] <;> omega

theorem inb_c (k : ℕ) : ∀ a, (![0, k % 8, 0, 0] : Fin 4 → ℕ) a + S1x1x1024x128.size a ≤ S1x8x1024x128.size a := by
  intro a; fin_cases a <;> simp [S1x1x1024x128, S1x8x1024x128]; omega

theorem inb_o (k : ℕ) : ∀ a, (![0, 0, 0, 128 * (k % 8)] : Fin 4 → ℕ) a + S1x1x256x128.size a ≤ S1x1x256x1024.size a := by
  intro a; fin_cases a <;> simp [S1x1x256x128, S1x1x256x1024]; omega

/-- Tile `m` of chunk `k`. -/
def tl (s : Vec F S8x2112x128 .f32) (k m : ℕ) : S1x256x128.Idx → F .f32 :=
  fun j => s ((Rect.unit (s := S8x2112x128) ![m % 8, 264 * (k % 8), 0] S1x256x128.size (inb_y m k)).toLoadRect.idx j)

/-- Chunk `k` of the packed output matrix. -/
def ldc (x6 : Vec F S1x8x1024x128 .bf16) (k : ℕ) : S1x1x1024x128.Idx → F .bf16 :=
  fun j => x6 ((Rect.unit (s := S1x8x1024x128) ![0, k % 8, 0, 0] S1x1x1024x128.size (inb_c k)).toLoadRect.idx j)

/-- Chunk `k` of the output block, from the scratch. -/
def outChunk (s : Vec F S8x2112x128 .f32) (x6 : Vec F S1x8x1024x128 .bf16) (k : ℕ) : FVec F S1x1x256x128 .f32 :=
  k0_pay174 (tl s k 0) (tl s k 1) (tl s k 2) (tl s k 3) (tl s k 4) (tl s k 5) (tl s k 6) (tl s k 7) (ldc x6 k)

/-- The output block, from the scratch. -/
def oOut (s : Vec F S8x2112x128 .f32) (x6 : Vec F S1x8x1024x128 .bf16) : Vec F S1x1x256x1024 .f32 := fun x =>
  outChunk s x6 ((x 3).val / 128) (ix4 (0 : Fin 1) (0 : Fin 1) (x 2) ⟨(x 3).val % 128, Nat.mod_lt _ (by decide)⟩)

/-- The first `n` chunks of the output block are stored. -/
def OFills (s : Vec F S8x2112x128 .f32) (x6 : Vec F S1x8x1024x128 .bf16) (n : ℕ) (o : Vec F S1x1x256x1024 .f32) : Prop :=
  ∀ x : S1x1x256x1024.Idx, (x 3).val < 128 * n → o x = oOut s x6 x

theorem Run.storeOut {n : ℕ} {s : Vec F S8x2112x128 .f32} {o : Vec F S1x1x256x1024 .f32} (h : OFills s X.x6 n o) (hn : n < 8)
    {st : Vec F S8x8x128 .f32} {β : Type} {off : Fin 4 → ℕ} {hoff} {w : S1x1x256x128.Idx → Elt F .f32} {hx} {hs}
    (ho : off = ![0, 0, 0, 128 * (n % 8)]) (hw : w = outChunk s X.x6 n)
    {k : PUnit → Prog (TpuEff nD τ sig (Elt F) Λ₀ .tc) β} {Q : β → St F → Prop}
    (hk : ∀ o', OFills s X.x6 (n + 1) o' →
      Run (defs₀ (F := F)) Variants.none (c : Thread nD τ) none (Held c M X) (k ⟨⟩) ⟨s, st, o'⟩ Q) :
    Run (defs₀ (F := F)) Variants.none (c : Thread nD τ) none (Held c M X)
      (Prog.lift (.store M.arg9 (Rect.unit (s := S1x1x256x1024) off S1x1x256x128.size hoff) w Finset.univ hx hs) >>= k) ⟨s, st, o⟩ Q := by
  subst ho hw
  refine Run.store (wr9 c M X) (hk _ fun x hlt => ?_)
  have h0 : (x 0).val < 1 := (x 0).isLt
  have h1 : (x 1).val < 1 := (x 1).isLt
  have h3 : (x 3).val < 1024 := (x 3).isLt
  by_cases he : (x 3).val / 128 = n
  · have e := put_hit (Rect.unit (s := S1x1x256x1024) ![0, 0, 0, 128 * (n % 8)] S1x1x256x128.size hoff) (outChunk s X.x6 n) o
      (ix4 (0 : Fin 1) (0 : Fin 1) (x 2) (⟨(x 3).val % 128, Nat.mod_lt _ (by decide)⟩ : Fin 128)) x fun a => by
        fin_cases a
        · show (x 0).val = 0 + 1 * 0; omega
        · show (x 1).val = 0 + 1 * 0; omega
        · show (x 2).val = 0 + 1 * (x 2).val; omega
        · show (x 3).val = 128 * (n % 8) + 1 * ((x 3).val % 128); omega
    refine e.trans ?_
    rw [oOut, he]
  · refine (put_miss _ _ _ x ?_).trans (h x (by omega))
    rw [Rect.mem_set_unit]
    intro hm
    have m3 : 128 * (n % 8) ≤ (x 3).val ∧ (x 3).val < 128 * (n % 8) + 128 := hm 3
    omega

/-- What the whole body leaves. -/
theorem run_body (i : grid0.Coords) (s : Vec F S8x2112x128 .f32) (st : Vec F S8x8x128 .f32) (o : Vec F S1x1x256x1024 .f32) :
    Run (defs₀ (F := F)) Variants.none (c : Thread nD τ) none (Held c M X)
      (cc0_s5 i M.arg3 M.h3 M.arg4 M.h4 M.arg5 M.h5 M.arg6 M.h6 M.arg7 M.h7 M.arg8 M.h8 M.arg9 M.h9 M.arg10 M.h10 M.arg11 M.h11)
      ⟨s, st, o⟩ (fun _ σ => Tr X (i 0).val (rowsIn X i) (stIn i st) 256 [] σ.s
        ∧ σ.st = stOut X (i 0).val (rowsIn X i) (stIn i st)
        ∧ ((i 2).val = 0 → σ.o = o) ∧ ((i 2).val ≠ 0 → σ.o = oOut σ.s X.x6)) := by
  rw [cc0_s5_eq_skeleton, cc0_s5_skel]
  refine Run.bind _ (run_fill c M X i s st o) ?_
  rintro a ⟨s1, st1, o1⟩ ⟨rfl, hF, h1, h2⟩
  obtain rfl : st1 = stIn i st := h1
  obtain rfl : o1 = o := h2
  unfold Loaded
  refine Run.bind _ (run_scan i (stIn i st) o1 hF.tr) ?_
  rintro a ⟨s2, st2, o2⟩ ⟨rfl, hT, h1, h2⟩
  obtain rfl : st2 = stIn i st := h1
  obtain rfl : o2 = o1 := h2
  have h : SFills X (i 0).val (rowsIn X i) (stIn i st) [] (stIn i st) := fun x hx => absurd hx (by simp)
  have ho : OFills s2 X.x6 0 o2 := fun x hx => absurd hx (by omega)
  clear hF
  repeat first
    | with_reducible refine Run.load (rd11 c M X) ?_
    | (with_reducible refine Run.storeState h ?h1 ?h2 ?hw fun st' h' => ?_
       case h1 => rfl
       case h2 => rfl
       case hw => rfl
       clear h
       rename' h' => h)
  have hall : ∀ m < 8, m ∈ [(![7, 0, 0] : Fin 3 → ℕ) 0, (![3, 0, 0] : Fin 3 → ℕ) 0, (![6, 0, 0] : Fin 3 → ℕ) 0, (![2, 0, 0] : Fin 3 → ℕ) 0,
    (![5, 0, 0] : Fin 3 → ℕ) 0, (![1, 0, 0] : Fin 3 → ℕ) 0, (![4, 0, 0] : Fin 3 → ℕ) 0, (![0, 0, 0] : Fin 3 → ℕ) 0] := by decide
  have hst := funext fun x => h x (hall _ (x 0).isLt)
  by_cases hi : (i 2).val = 0
  · have hc : ¬k0_cond4 i = 1#1 := lat_neg (i 2) hi
    with_reducible refine Run.dite_neg hc ?_
    with_reducible refine Run.ret ?_
    exact ⟨hT, hst, fun _ => rfl, fun hn => absurd hi hn⟩
  · have hc : k0_cond4 i = 1#1 := lat_pos (i 2) hi
    with_reducible refine Run.dite_pos hc ?_
    repeat first
      | with_reducible refine Run.load (rd10 c M X) ?_
      | with_reducible refine Run.load (rd6 c M X) ?_
      | with_reducible refine Run.load (rd9 c M X) ?_
      | (with_reducible refine Run.storeOut ho ?hn ?ho ?hw fun o' ho' => ?_
         case hn => decide
         case ho => rfl
         case hw => rfl
         clear ho
         rename' ho' => ho)
      | with_reducible refine Run.ret ?_
      | with_reducible refine Run.load_ret (rd10 c M X) ?_
      | with_reducible refine Run.seq ?_
      | rw [k0_part23_eq_skeleton, k0_part23_skel]
      | rw [k0_part24_eq_skeleton, k0_part24_skel]
      | rw [k0_part25_eq_skeleton, k0_part25_skel]
      | rw [k0_part26_eq_skeleton, k0_part26_skel]
      | rw [k0_part27_eq_skeleton, k0_part27_skel]
      | rw [k0_part28_eq_skeleton, k0_part28_skel]
      | rw [k0_part29_eq_skeleton, k0_part29_skel]
    exact ⟨hT, hst, fun h0 => absurd h0 hi, fun _ => funext fun x => ho x (by have h3 : (x 3).val < 1024 := (x 3).isLt; omega)⟩

end Cert.S5Ideal.Body

end
-- ==== Proof.S5Frame.lean ====
/- The frame of the scan kernel from its body's run, by hand: the invariant between points carries the scan's state, the
   scratch of rows is owned at anything; the output block is left alone at a pass's first point. -/
module

public import proofs.«01_k».proof.Proof.S5Body
public import proofs.«01_k».proof.Proof.Gen.S5Ideal.Frame
public import Idealize.ShloMosaic.Lib.Claim

@[expose] public section

set_option maxRecDepth 16384

noncomputable section

namespace Cert.S5Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.S5Ideal Cert.S5Ideal.Gen S5Run

variable {F : FTy → Type} [FloatOps F]

local notation "𝕄" => MT nD τ sig Unit (Elt F) ℕ (UR sig nD τ) ℕ

/-! ## The output block without the scratch -/

/-- What the scratch's rows hold after the scan. -/
def rowsOut (X : Ins F) (d : ℕ) (u : Vec F S1x256x1024 .bf16) (st : Vec F S8x8x128 .f32) : Vec F S8x2112x128 .f32 := fun x =>
  Sx X d u st (row d ((x 1).val % 264) + 1) (x 0).val
    (ix2 ⟨(x 1).val / 264, by have h1 : (x 1).val < 2112 := (x 1).isLt; omega⟩ (x 2))

theorem Tr.rows {X : Ins F} {d : ℕ} {u : Vec F S1x256x1024 .bf16} {st : Vec F S8x8x128 .f32} {s : Vec F S8x2112x128 .f32}
    (h : Tr X d u st 256 [] s) (x : S8x2112x128.Idx) (hx : (x 1).val % 264 < 256) : s x = rowsOut X d u st x := by
  rw [h x hx, if_pos (Or.inl (row_lt d hx))]
  rfl

theorem tl_congr {X : Ins F} {d : ℕ} {u : Vec F S1x256x1024 .bf16} {st : Vec F S8x8x128 .f32} {s : Vec F S8x2112x128 .f32}
    (h : Tr X d u st 256 [] s) (k m : ℕ) : tl s k m = tl (rowsOut X d u st) k m := by
  funext j
  have h1 : (j 1).val < 256 := (j 1).isLt
  refine h.rows _ ?_
  show (264 * (k % 8) + 1 * (j 1).val) % 264 < 256
  omega

theorem oOut_congr {X : Ins F} {d : ℕ} {u : Vec F S1x256x1024 .bf16} {st : Vec F S8x8x128 .f32} {s : Vec F S8x2112x128 .f32}
    (h : Tr X d u st 256 [] s) (x6 : Vec F S1x8x1024x128 .bf16) : oOut s x6 = oOut (rowsOut X d u st) x6 := by
  funext x
  unfold oOut outChunk
  simp only [tl_congr h]

/-! ## The points -/

variable (m : (ℓ : Loc nD τ sig) → Buf (Elt F) ℓ) (ρ : Dev nD → PrngReg)

/-- The current staging memrefs at a point, and the scratches. -/
def memsAt (t : Fin cfg0.N) : Mems where
  arg3 := win0_0.stage (cfg0.slots t 0)
  arg4 := win0_1.stage (cfg0.slots t 1)
  arg5 := win0_2.stage (cfg0.slots t 2)
  arg6 := win0_3.stage (cfg0.slots t 3)
  arg7 := win0_4.stage (cfg0.slots t 4)
  arg8 := win0_5.stage (cfg0.slots t 5)
  arg9 := win0_6.stage (cfg0.slots t 6)
  arg10 := Memref.whole cc0_scratch0
  arg11 := Memref.whole cc0_scratch1
  h3 := hstage0_0 ((cfg0.slots t 0).cast nbuf0_0)
  h4 := hstage0_1 ((cfg0.slots t 1).cast nbuf0_1)
  h5 := hstage0_2 ((cfg0.slots t 2).cast nbuf0_2)
  h6 := hstage0_3 ((cfg0.slots t 3).cast nbuf0_3)
  h7 := hstage0_4 ((cfg0.slots t 4).cast nbuf0_4)
  h8 := hstage0_5 ((cfg0.slots t 5).cast nbuf0_5)
  h9 := hstage0_6 ((cfg0.slots t 6).cast nbuf0_6)
  h10 := Memref.isWhole_whole _
  h11 := Memref.isWhole_whole _

/-- The input blocks at a point. -/
def insAt (c : Dev nD) (t : Fin cfg0.N) : Ins F where
  x3 := iblk m c 0 t
  x4 := iblk m c 1 t
  x5 := iblk m c 2 t
  x6 := iblk m c 3 t
  x7 := iblk m c 4 t
  x8 := iblk m c 5 t

/-- The state a point leaves, from the one it finds. -/
def stepAt (c : Dev nD) (t : Fin cfg0.N) (st : Vec F S8x8x128 .f32) : Vec F S8x8x128 .f32 :=
  stOut (insAt m c t) (grid0.coords t 0).val (rowsIn (insAt m c t) (grid0.coords t)) (stIn (grid0.coords t) st)

/-- The output block a point stores, from the state it finds. -/
def blockAt (c : Dev nD) (t : Fin cfg0.N) (st : Vec F S8x8x128 .f32) : Vec F S1x1x256x1024 .f32 :=
  oOut (rowsOut (insAt m c t) (grid0.coords t 0).val (rowsIn (insAt m c t) (grid0.coords t)) (stIn (grid0.coords t) st)) (insAt m c t).x6

/-- The state found by point `n`: what the point before left. -/
def stAt (c : Dev nD) : (n : ℕ) → n ≤ cfg0.N → Vec F S8x8x128 .f32
  | 0, _ => k0_pay189 (F := F)
  | n + 1, h => stepAt m c ⟨n, h⟩ (stAt c n (Nat.le_of_lt h))

abbrev scM0_0 : Memref sig .tc .vmem S8x2112x128 .f32 := Memref.whole cc0_scratch0
abbrev scM0_1 : Memref sig .tc .vmem S8x8x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant before point `n`. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (stAt m c (n + 1) hn)) ∗ (∃ r, prngReg c r))

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (stAt m c (n + 1) hn)) ∗ (∃ r, prngReg c r)) := rfl

/-- The invariant hands out a state from which the point's work is the one stated: at the first point any state. -/
theorem PhiS_open (c : Dev nD) (t : Fin cfg0.N) :
    PhiS m c t.val (Nat.le_of_lt t.isLt) ⊢ iprop(∃ s, ∃ st, ⌜stIn (grid0.coords t) st = stIn (grid0.coords t) (stAt m c t.val (Nat.le_of_lt t.isLt))⌝
      ∗ owns (c : Thread nD τ) scM0_0 fullShare s ∗ owns (c : Thread nD τ) scM0_1 fullShare st ∗ (∃ r, prngReg c r)) := by
  obtain ⟨n, hn⟩ := t
  cases n with
  | zero =>
    show (Pipeline.ΦA spec0 c : sProp 𝕄) ⊢ _
    rw [PhiA0_eq]
    iintro ⟨⟨⟨%s, HS⟩, ⟨%st, HT⟩⟩, Hg⟩
    iexists s
    iexists st
    isplitr
    · ipureintro
      have h : (grid0.coords ⟨0, hn⟩ 2).val = 0 / 1 % 33 := Pipeline.Grid.coords_val ⟨0, hn⟩ 2 (by decide) rfl
      unfold stIn
      rw [if_pos h, if_pos h]
    iframe
  | succ n =>
    rw [PhiS_succ]
    iintro ⟨⟨⟨%s, HS⟩, HT⟩, Hg⟩
    iexists s
    iexists _
    isplitr
    swap
    · iframe
    ipureintro
    rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockAt m c t (stAt m c t.val (Nat.le_of_lt t.isLt))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blockAt m c t (stAt m c t.val (Nat.le_of_lt t.isLt)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem idle_first : ∀ t : Fin cfg0.N, (grid0.coords t 2).val = 0 → cfg0.idle 6 (grid0.coords t) = true := by decide +kernel
theorem noFlush_first : ∀ t : Fin cfg0.N, (grid0.coords t 2).val = 0 → (cfg0.win 6).flush t = false := by decide +kernel
theorem live_rest : ∀ t : Fin cfg0.N, (grid0.coords t 2).val ≠ 0 → cfg0.idle 6 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (memsAt t).arg3 fullShare ((dats m 0 c).before 0 t d))
    ∗ (∃ d, owns (c : Thread nD τ) (memsAt t).arg4 fullShare ((dats m 0 c).before 1 t d))
    ∗ (∃ d, owns (c : Thread nD τ) (memsAt t).arg5 fullShare ((dats m 0 c).before 2 t d))
    ∗ (∃ d, owns (c : Thread nD τ) (memsAt t).arg6 fullShare ((dats m 0 c).before 3 t d))
    ∗ (∃ d, owns (c : Thread nD τ) (memsAt t).arg7 fullShare ((dats m 0 c).before 4 t d))
    ∗ (∃ d, owns (c : Thread nD τ) (memsAt t).arg8 fullShare ((dats m 0 c).before 5 t d))
    ∗ (∃ d, owns (c : Thread nD τ) (memsAt t).arg9 fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What window 6 is left at, from the block's contents before and after the body. -/
theorem leaves6 (c : Dev nD) (t : Fin cfg0.N) (d : _) (o : Vec F S1x1x256x1024 .f32)
    (h0 : (grid0.coords t 2).val = 0 → o = (dats m 0 c).before 6 t d)
    (h1 : (grid0.coords t 2).val ≠ 0 → o = (dats m 0 c).after 6 t) :
    (owns (c : Thread nD τ) (memsAt t).arg9 fullShare o : sProp 𝕄) ⊢ (dats m 0 c).leavesExact 6 t := by
  by_cases h : (grid0.coords t 2).val = 0
  · rw [Dat.leavesExact_idle (dats m 0 c) 6 t (idle_first t h) (noFlush_first t h), h0 h]
    iintro H
    iexists d
    iexact H
  · rw [h1 h, show (dats m 0 c).leavesExact 6 t = owns (c : Thread nD τ) (memsAt t).arg9 fullShare ((dats m 0 c).after 6 t) from by
      unfold Dat.leavesExact; rw [live_rest t h]; rfl]

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (memsAt t).arg3 fullShare ((dats m 0 c).after 0 t) from rfl, after0_0]
  rw [show (dats m 0 c).leavesExact 1 t = owns (c : Thread nD τ) (memsAt t).arg4 fullShare ((dats m 0 c).after 1 t) from rfl, after0_1]
  rw [show (dats m 0 c).leavesExact 2 t = owns (c : Thread nD τ) (memsAt t).arg5 fullShare ((dats m 0 c).after 2 t) from rfl, after0_2]
  rw [show (dats m 0 c).leavesExact 3 t = owns (c : Thread nD τ) (memsAt t).arg6 fullShare ((dats m 0 c).after 3 t) from rfl, after0_3]
  rw [show (dats m 0 c).leavesExact 4 t = owns (c : Thread nD τ) (memsAt t).arg7 fullShare ((dats m 0 c).after 4 t) from rfl, after0_4]
  rw [show (dats m 0 c).leavesExact 5 t = owns (c : Thread nD τ) (memsAt t).arg8 fullShare ((dats m 0 c).after 5 t) from rfl, after0_5]
  refine (sep_mono (PhiS_open m c t) .rfl).trans ?_
  iintro ⟨⟨%s, %st, %hst, HS, HT, Hg⟩, Ho, ⟨%d0, H0⟩, ⟨%d1, H1⟩, ⟨%d2, H2⟩, ⟨%d3, H3⟩, ⟨%d4, H4⟩, ⟨%d5, H5⟩, ⟨%d6, H6⟩⟩
  have hrun := run_body (c := c) (M := memsAt t) (X := insAt m c t) (grid0.coords t) s st ((dats m 0 c).before 6 t d6) Set.univ
    (fun _ => iprop(((∃ d, owns (c : Thread nD τ) scM0_0 fullShare d) ∗ owns (c : Thread nD τ) scM0_1 fullShare (stAt m c (t.val + 1) t.isLt))
      ∗ owns (c : Thread nD τ) (memsAt t).arg3 fullShare (iblk m c 0 t) ∗ owns (c : Thread nD τ) (memsAt t).arg4 fullShare (iblk m c 1 t)
      ∗ owns (c : Thread nD τ) (memsAt t).arg5 fullShare (iblk m c 2 t) ∗ owns (c : Thread nD τ) (memsAt t).arg6 fullShare (iblk m c 3 t)
      ∗ owns (c : Thread nD τ) (memsAt t).arg7 fullShare (iblk m c 4 t) ∗ owns (c : Thread nD τ) (memsAt t).arg8 fullShare (iblk m c 5 t)
      ∗ (dats m 0 c).leavesExact 6 t)) (by
    rintro _ ⟨s', st', o'⟩ ⟨hT, hS, hO0, hO1⟩
    have hS' : st' = stAt m c (t.val + 1) t.isLt := by
      refine hS.trans ?_
      show _ = stepAt m c t (stAt m c t.val _)
      unfold stepAt
      rw [← hst]
    have hO : (owns (c : Thread nD τ) (memsAt t).arg9 fullShare o' : sProp 𝕄) ⊢ (dats m 0 c).leavesExact 6 t :=
      leaves6 m c t d6 o' hO0 fun h => by
        refine (hO1 h).trans ?_
        rw [after0_6]
        unfold blockAt
        rw [← hst]
        exact oOut_congr hT _
    unfold Held
    rw [← hS']
    iintro ⟨H0, H1, H2, H3, H4, H5, H6, HS, HT⟩
    isplitl [HS HT]
    · isplitl [HS]
      · iexists _; iexact HS
      iexact HT
    isplitl [H0]; · iexact H0
    isplitl [H1]; · iexact H1
    isplitl [H2]; · iexact H2
    isplitl [H3]; · iexact H3
    isplitl [H4]; · iexact H4
    isplitl [H5]; · iexact H5
    iapply hO
    iexact H6)
  iapply wp_wand_r
  isplitl [HS HT H0 H1 H2 H3 H4 H5 H6]
  · iapply hrun
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iexact HT
  iintro %a ⟨⟨HS, HT⟩, H0, H1, H2, H3, H4, H5, H6⟩
  isplitl [HS HT Hg]
  · isplitl [HS HT]
    · isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (131 + 1) (by rw [show cfg0.N = 132 from N_0]) from rfl, PhiS_succ m c 131 (by rw [show cfg0.N = 132 from N_0]; decide), PhiA0_eq]
  iintro ⟨⟨HS0, HS1⟩, Hg⟩
  isplitl [HS0 HS1]
  · isplitl [HS0]
    · iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.S5Ideal.Body

end
-- ==== Proof.S5BitsA.lean ====
/- The scan kernel as compiled and as read over the extended reals are one program text: its host code, first half. -/
module

public import proofs.«01_k».proof.Defs
public import proofs.«01_k».proof.Proof.Gen.S5
public import proofs.«01_k».proof.Proof.Gen.S5Ideal

@[expose] public section

set_option maxRecDepth 65536
set_option maxHeartbeats 40000000

noncomputable section

namespace Cert.S5Ideal.Body

open Idealize.ShloMosaic Idealize.ShloMosaic.TcCoe
open Idealize.SL Idealize.SL.Sem

variable {F : FTy → Type} [FloatOps F]

set_option smartUnfolding false in
theorem part0_eq : @Cert.S5Ideal.main_part0 F _ _ = @Cert.S5.main_part0 F _ _ := rfl

set_option smartUnfolding false in
theorem part1_eq : @Cert.S5Ideal.main_part1 F _ _ = @Cert.S5.main_part1 F _ _ := rfl

end Cert.S5Ideal.Body

end
-- ==== Proof.S5BitsB.lean ====
/- The scan kernel as compiled and as read over the extended reals are one program text: its host code, second half. -/
module

public import proofs.«01_k».proof.Defs
public import proofs.«01_k».proof.Proof.Gen.S5
public import proofs.«01_k».proof.Proof.Gen.S5Ideal

@[expose] public section

set_option maxRecDepth 65536
set_option maxHeartbeats 40000000

noncomputable section

namespace Cert.S5Ideal.Body

open Idealize.ShloMosaic Idealize.ShloMosaic.TcCoe
open Idealize.SL Idealize.SL.Sem

variable {F : FTy → Type} [FloatOps F]

set_option smartUnfolding false in
theorem part2_eq : @Cert.S5Ideal.main_part2 F _ _ = @Cert.S5.main_part2 F _ _ := rfl

set_option smartUnfolding false in
theorem part3_eq : @Cert.S5Ideal.main_part3 F _ _ = @Cert.S5.main_part3 F _ _ := rfl

end Cert.S5Ideal.Body

end
-- ==== Proof.S5Bits.lean ====
/- The scan kernel as compiled and as read over the extended reals are one program text, so the frame of the
   one is the frame of the other. -/
module

public import proofs.«01_k».proof.Defs
public import proofs.«01_k».proof.Proof.Gen.S5
public import proofs.«01_k».proof.Proof.S5Frame
public import proofs.«01_k».proof.Proof.S5BitsA
public import proofs.«01_k».proof.Proof.S5BitsB

@[expose] public section

set_option maxRecDepth 65536
set_option maxHeartbeats 40000000

noncomputable section

namespace Cert.S5Ideal.Body

open Idealize.ShloMosaic Idealize.ShloMosaic.TcCoe
open Idealize.SL Idealize.SL.Sem

variable {F : FTy → Type} [FloatOps F]

/-- Four stretches of host code in a row are equal if each is. -/
theorem parts_congr {M : Type → Type 1} [Monad M] {D : Type} {p0 p1 p2 p3 q0 q1 q2 q3 : D → M PUnit} (h0 : p0 = q0) (h1 : p1 = q1)
    (h2 : p2 = q2) (h3 : p3 = q3) :
    (fun d => do p0 d; p1 d; p2 d; p3 d) = (fun d => do q0 d; q1 d; q2 d; q3 d) := by
  rw [h0, h1, h2, h3]

set_option smartUnfolding false in
theorem main_eq : @Cert.S5Ideal.main F _ _ = @Cert.S5.main F _ _ :=
  parts_congr (p0 := @Cert.S5Ideal.main_part0 F _ _) (p1 := @Cert.S5Ideal.main_part1 F _ _) (p2 := @Cert.S5Ideal.main_part2 F _ _)
    (p3 := @Cert.S5Ideal.main_part3 F _ _) (q0 := @Cert.S5.main_part0 F _ _) (q1 := @Cert.S5.main_part1 F _ _)
    (q2 := @Cert.S5.main_part2 F _ _) (q3 := @Cert.S5.main_part3 F _ _) part0_eq part1_eq part2_eq part3_eq

set_option smartUnfolding false in
theorem defs_eq : @Cert.S5Ideal.defs F _ _ = @Cert.S5.defs F _ _ := rfl

set_option smartUnfolding false in
/-- The frame of the compiled kernel. -/
theorem frame_bits : Cert.quiescent_S5 (hS5 := Cert.S5.Gen.facts) := fun m ρ _ => by
  have h := Cert.S5Ideal.Body.frame (F := Bits) m ρ
  rw [defs_eq, main_eq] at h
  exact h

end Cert.S5Ideal.Body

end
-- ==== Proof.S5Cat.lean ====
module

public import proofs.«01_k».proof.Defs

@[expose] public section

namespace Cert.S5Cat

open Idealize.ShloMosaic

/-- Two arrays joined along an axis: equal pieces give equal joins. -/
theorem concatenate_two {α : Type} (t : Shape) (a : Fin t.rank) (s₁ s₂ : Shape) (x x' : s₁.Idx → α) (y y' : s₂.Idx → α)
    (h : Shape.Concatenates [s₁, s₂] t a) (hx : x = x') (hy : y = y') :
    concatenate t a [⟨s₁, x⟩, ⟨s₂, y⟩] h = concatenate t a [⟨s₁, x'⟩, ⟨s₂, y'⟩] h := by
  subst hx hy
  rfl

end Cert.S5Cat
-- ==== Proof.S5Spec.lean ====
module

public import proofs.«01_k».proof.Defs
public import Idealize.ShloMosaic.Lib.Pipeline.ValueKit

@[expose] public section

noncomputable section

/-!
The S5 scan over the extended reals, entry by entry: what the kernel and the reference are both shown to leave.
Direction `d` runs over the context and then the latent tokens (`d = 0`), or over both reversed (`d = 1`).
-/

namespace Cert.S5Spec

open Idealize.ShloMosaic
open Cert.S5Ideal

/-- The nine arguments. -/
structure Par where
  uc : S2x256x1024.Idx → EReal
  px : S2x8192x8192.Idx → EReal
  re : S1x2x64x64.Idx → EReal
  im : S1x2x64x64.Idx → EReal
  dt : S1x2x64.Idx → EReal
  bre : S1x2x64x64x16.Idx → EReal
  bim : S1x2x64x64x16.Idx → EReal
  cre : S1x2x64x16x64.Idx → EReal
  cim : S1x2x64x16x64.Idx → EReal

variable (P : Par)

/-- The real part of one step's factor. -/
def lamR (d : Fin 2) (g p : Fin 64) : EReal :=
  Ideal.exp (P.re (ix4 0 d g p) * Ideal.exp (P.dt (ix3 0 d g))) * Ideal.cos (P.im (ix4 0 d g p) * Ideal.exp (P.dt (ix3 0 d g)))

/-- The imaginary part of one step's factor. -/
def lamI (d : Fin 2) (g p : Fin 64) : EReal :=
  Ideal.exp (P.re (ix4 0 d g p) * Ideal.exp (P.dt (ix3 0 d g))) * Ideal.sin (P.im (ix4 0 d g p) * Ideal.exp (P.dt (ix3 0 d g)))

/-- The squared modulus of the rate. -/
def den (d : Fin 2) (g p : Fin 64) : EReal :=
  P.re (ix4 0 d g p) * P.re (ix4 0 d g p) + P.im (ix4 0 d g p) * P.im (ix4 0 d g p)

/-- The real part of (factor - 1) / rate. -/
def qR (d : Fin 2) (g p : Fin 64) : EReal :=
  Ideal.div ((lamR P d g p - 1) * P.re (ix4 0 d g p) + lamI P d g p * P.im (ix4 0 d g p)) (den P d g p)

/-- The imaginary part of (factor - 1) / rate. -/
def qI (d : Fin 2) (g p : Fin 64) : EReal :=
  Ideal.div (lamI P d g p * P.re (ix4 0 d g p) - (lamR P d g p - 1) * P.im (ix4 0 d g p)) (den P d g p)

/-- The real part of the input matrix. -/
def bR (d : Fin 2) (g p : Fin 64) (h : Fin 16) : EReal :=
  qR P d g p * P.bre (ix5 0 d g p h) - qI P d g p * P.bim (ix5 0 d g p h)

/-- The imaginary part of the input matrix. -/
def bI (d : Fin 2) (g p : Fin 64) (h : Fin 16) : EReal :=
  qR P d g p * P.bim (ix5 0 d g p h) + qI P d g p * P.bre (ix5 0 d g p h)

/-- Entry `t` of the sequence a direction runs over. -/
def tok (d b : Fin 2) (t : ℕ) (ch : Fin 1024) : EReal :=
  if t < 256 then P.uc (ix3 b ⟨(if d.val = 0 then t else 255 - t) % 256, Nat.mod_lt _ (by decide)⟩ ch)
  else P.px (ix3 b ⟨(if d.val = 0 then t - 256 else 8447 - t) % 8192, Nat.mod_lt _ (by decide)⟩ ⟨ch.val, Nat.lt_trans ch.isLt (by decide)⟩)

/-- Channel `h` of group `g`. -/
def chan (g : Fin 64) (h : Fin 16) : Fin 1024 := ⟨16 * g.val + h.val, by omega⟩

/-- The real part of what step `t` adds. -/
def buR (d b : Fin 2) (t : ℕ) (g p : Fin 64) : EReal := ∑ h : Fin 16, tok P d b t (chan g h) * bR P d g p h

/-- The imaginary part of what step `t` adds. -/
def buI (d b : Fin 2) (t : ℕ) (g p : Fin 64) : EReal := ∑ h : Fin 16, tok P d b t (chan g h) * bI P d g p h

/-- The state before step `t`: real and imaginary part. -/
def st (d b : Fin 2) (g p : Fin 64) : ℕ → EReal × EReal
  | 0 => (0, 0)
  | t + 1 => (lamR P d g p * (st d b g p t).1 - lamI P d g p * (st d b g p t).2 + buR P d b t g p,
      lamR P d g p * (st d b g p t).2 + lamI P d g p * (st d b g p t).1 + buI P d b t g p)

/-- The steps done when latent token `n` has been taken. -/
def after (d : Fin 2) (n : Fin 8192) : ℕ := if d.val = 0 then 257 + n.val else 8448 - n.val

/-- The scan's output at latent token `n`, channel `ch`. -/
def out (d b : Fin 2) (n : Fin 8192) (ch : Fin 1024) : EReal :=
  ∑ p : Fin 64, (st P d b ⟨ch.val / 16, by omega⟩ p (after d n)).1 * P.cre (ix5 0 d ⟨ch.val / 16, by omega⟩ ⟨ch.val % 16, by omega⟩ p)
    + ∑ p : Fin 64, (st P d b ⟨ch.val / 16, by omega⟩ p (after d n)).2 * -P.cim (ix5 0 d ⟨ch.val / 16, by omega⟩ ⟨ch.val % 16, by omega⟩ p)

end Cert.S5Spec

end
-- ==== Proof.S5Entry.lean ====
module

public import proofs.«01_k».proof.Proof.S5Frame
public import proofs.«01_k».proof.Proof.S5Cat
public import proofs.«01_k».proof.Proof.S5Spec
public import Idealize.ShloMosaic.Lib.StableHlo.RunRead
public import Idealize.ShloMosaic.Lib.Pipeline.ValueKit
public import Idealize.ShloMosaic.Lib.Pipeline.ReadBack

@[expose] public section

set_option maxRecDepth 16384

noncomputable section

/-! What the host line leaves in the operands it computes for the kernel, over the extended reals. -/

namespace Cert.S5Ideal.Body

open Cert.S5Ideal Cert.S5Ideal.Gen Idealize.ShloMosaic Idealize.ShloMosaic.TcCoe Idealize.SL.Sem

variable (m : (ℓ : Loc nD τ sig) → Buf (Elt Ideal) ℓ)

attribute [local congr] Cert.S5Cat.concatenate_two

/-- The arguments the kernel's call starts from. -/
def par (c : Dev nD) : S5Spec.Par where
  uc := m (c, Proc.tc.devRef main_arg0)
  px := m (c, Proc.tc.devRef main_arg1)
  re := m (c, Proc.tc.devRef main_arg2)
  im := m (c, Proc.tc.devRef main_arg3)
  dt := m (c, Proc.tc.devRef main_arg4)
  bre := m (c, Proc.tc.devRef main_arg5)
  bim := m (c, Proc.tc.devRef main_arg6)
  cre := m (c, Proc.tc.devRef main_arg7)
  cim := m (c, Proc.tc.devRef main_arg8)

/-- The identity the block matrices are built with, entry by entry. -/
theorem eye_at : ∀ a b : Fin 8, (FloatOps.uitofp (F := Ideal) FTy.f32 (IntOp.cmpi CmpIPredicate.eq (IntOp.addi (BitVec.ofNat 32 a.val) 0#32) (BitVec.ofNat 32 b.val)) : EReal)
    = if a.val = b.val then 1 else 0 := by
  intro a b
  have h : IntOp.cmpi CmpIPredicate.eq (IntOp.addi (BitVec.ofNat 32 a.val) 0#32) (BitVec.ofNat 32 b.val) = if a.val = b.val then 1#1 else 0#1 := by
    revert a b
    decide
  rw [h]
  split
  · show (((1#1 : BitVec 1).toNat : ℝ) : EReal) = 1
    norm_num
  · show (((0#1 : BitVec 1).toNat : ℝ) : EReal) = 0
    norm_num

theorem eye_nat {a b : ℕ} (ha : a < 8) (hb : b < 8) : (FloatOps.uitofp (F := Ideal) FTy.f32 (IntOp.cmpi CmpIPredicate.eq (IntOp.addi (BitVec.ofNat 32 a) 0#32) (BitVec.ofNat 32 b)) : EReal)
    = if a = b then 1 else 0 := eye_at ⟨a, ha⟩ ⟨b, hb⟩

theorem dir_cases (d : Fin 2) : d = 0 ∨ d = 1 := by omega

/-- The group and the state's place in it that row `k`, lane `j` of slab `q` stands for. -/
def grp (k : Fin 8) (q : Fin 4) (j : Fin 128) : Fin 64 := ⟨k.val * 8 + q.val * 2 + j.val / 64, by omega⟩
def plc (j : Fin 128) : Fin 64 := ⟨j.val % 64, Nat.mod_lt _ (by decide)⟩

set_option maxHeartbeats 8000000 in
theorem lamR_at (c : Dev nD) (d : Fin 2) (q : Fin 4) (k : Fin 8) (j : Fin 128) :
    V m c main_v214 (ix4 d q k j) = S5Spec.lamR (par m c) d (grp k q j) (plc j) := by
  unfold V
  after_reads_simp
  pointwise
  rcases dir_cases d with rfl | rfl
  · rw [dif_pos (by decide)]
    rfl
  · rw [dif_neg (by decide)]
    rfl

set_option maxHeartbeats 8000000 in
theorem lamI_at (c : Dev nD) (d : Fin 2) (q : Fin 4) (k : Fin 8) (j : Fin 128) :
    V m c main_v217 (ix4 d q k j) = S5Spec.lamI (par m c) d (grp k q j) (plc j) := by
  unfold V
  after_reads_simp
  pointwise
  rcases dir_cases d with rfl | rfl
  · rw [dif_pos (by decide)]
    rfl
  · rw [dif_neg (by decide)]
    rfl

end Cert.S5Ideal.Body

end
-- ==== Proof.S5ValA.lean ====
/- The scan kernel over the extended reals at one grid point: its products, its state and its output block, from what
   its operands hold. -/
module

public import proofs.«01_k».proof.Proof.S5Frame
public import proofs.«01_k».proof.Proof.S5Entry
public import Idealize.ShloMosaic.Lib.Pipeline.ValueKit
public import Idealize.ShloMosaic.Lib.Pipeline.ReadBack

@[expose] public section

set_option maxRecDepth 16384

noncomputable section

namespace Cert.S5Ideal.Body

open Cert.S5Ideal Cert.S5Ideal.Gen Idealize.ShloMosaic Idealize.ShloMosaic.TcCoe Idealize.SL.Sem

/-- A sum whose terms vanish off the image of `e`. -/
theorem sum_only {ι κ : Type} [Fintype ι] [Fintype κ] (f : ι → EReal) (p : ι → Prop) [DecidablePred p] (e : κ → ι)
    (he : Function.Injective e) (h1 : ∀ k, p (e k)) (h2 : ∀ i, p i → ∃ k, e k = i) :
    ∑ i, (if p i then f i else 0) = ∑ k, f (e k) := by
  refine (Finset.sum_of_injOn (s := Finset.univ) (t := Finset.univ) (f := fun k => f (e k)) (g := fun i => if p i then f i else 0) e he.injOn (fun _ _ => Finset.mem_coe.mpr (Finset.mem_univ _)) (fun i _ hi => if_neg fun hp => hi ?_)
    fun k _ => (if_pos (h1 k)).symm).symm
  obtain ⟨k, rfl⟩ := h2 i hp
  exact ⟨k, Finset.mem_coe.mpr (Finset.mem_univ _), rfl⟩

theorem mul_sel (u b : EReal) (p : Prop) [Decidable p] : u * (b * (if p then 1 else 0)) = if p then u * b else 0 := by
  split <;> simp

theorem mul_neg_sel (u b : EReal) (p : Prop) [Decidable p] : u * -(b * (if p then 1 else 0)) = if p then u * -b else 0 := by
  split <;> simp

/-- The real or the imaginary part, by the slab. -/
def part (q : ℕ) (z : EReal × EReal) : EReal := if q < 4 then z.1 else z.2

/-! ## The payloads at an index -/

theorem pay10_at (U : FVec Ideal S1x256x128 .bf16) (B : FVec Ideal S1x1x128x1024 .bf16) (r : Fin 256) (n : Fin 1024) :
    k0_pay10 (F := Ideal) U B (ix2 r n) = ∑ i : Fin 128, U (ix3 0 r i) * B (ix4 0 0 i n) := by
  pointwise [k0_pay10]

theorem pay160_at (a b x y : FVec Ideal S8x128 .f32) (g : FVec Ideal S1x8x128 .f32) (k : Fin 8) (j : Fin 128) :
    k0_pay160 (F := Ideal) a b x y g (ix2 k j) = (a (ix2 k j) * x (ix2 k j) - b (ix2 k j) * y (ix2 k j) + g (ix3 0 k j) : EReal) := by
  pointwise [k0_pay160]

theorem pay161_at (a b x y : FVec Ideal S8x128 .f32) (g : FVec Ideal S1x8x128 .f32) (k : Fin 8) (j : Fin 128) :
    k0_pay161 (F := Ideal) a b x y g (ix2 k j) = (a (ix2 k j) * y (ix2 k j) + b (ix2 k j) * x (ix2 k j) + g (ix3 0 k j) : EReal) := by
  pointwise [k0_pay161]

theorem pay194_at (a : FVec Ideal S1x1x8x128 .f32) (k : Fin 8) (j : Fin 128) :
    k0_pay194 (F := Ideal) a (ix2 k j) = (a (ix4 0 0 k j) : EReal) := by
  pointwise [k0_pay194]

theorem pay202_at (a : FVec Ideal S1x8x128 .f32) (k : Fin 8) (j : Fin 128) :
    k0_pay202 (F := Ideal) a (ix2 k j) = (a (ix3 0 k j) : EReal) := by
  pointwise [k0_pay202]

theorem pay189_at (x : Fin 8) (k : Fin 8) (j : Fin 128) : k0_pay189 (F := Ideal) (ix3 x k j) = (0 : EReal) := by
  pointwise [k0_pay189]

/-! ## What the operands hold -/

/-- What a point's operands and its state hold: for direction `d`, batch `b`, from step `T` on. -/
structure Feeds (P : S5Spec.Par) (d b : Fin 2) (T : ℕ) (X : Ins Ideal) (u : Vec Ideal S1x256x1024 .bf16) (st : Vec Ideal S8x8x128 .f32) : Prop where
  x7 : ∀ q k j, X.x7 (ix4 0 q k j) = S5Spec.lamR P d (grp k q j) (plc j)
  x8 : ∀ q k j, X.x8 (ix4 0 q k j) = S5Spec.lamI P d (grp k q j) (plc j)
  x5 : ∀ (k : Fin 8) (r : Fin 128) (n : Fin 1024), X.x5 (ix4 0 k r n)
    = (if n.val < 512 then S5Spec.bR P d ⟨k.val * 8 + r.val / 16, by omega⟩ ⟨n.val % 64, by omega⟩ ⟨r.val % 16, by omega⟩
      else S5Spec.bI P d ⟨k.val * 8 + r.val / 16, by omega⟩ ⟨n.val % 64, by omega⟩ ⟨r.val % 16, by omega⟩)
      * (if r.val / 16 = n.val % 512 / 64 then 1 else 0 : EReal)
  x6 : ∀ (k : Fin 8) (r : Fin 1024) (n : Fin 128), X.x6 (ix4 0 k r n)
    = if r.val < 512 then P.cre (ix5 0 d ⟨k.val * 8 + r.val % 512 / 64, by omega⟩ ⟨n.val % 16, by omega⟩ ⟨r.val % 64, by omega⟩)
        * (if r.val % 512 / 64 = n.val / 16 then 1 else 0 : EReal)
      else -(P.cim (ix5 0 d ⟨k.val * 8 + r.val % 512 / 64, by omega⟩ ⟨n.val % 16, by omega⟩ ⟨r.val % 64, by omega⟩)
        * (if r.val % 512 / 64 = n.val / 16 then 1 else 0 : EReal))
  rows : ∀ (q : ℕ) (r : Fin 256) (ch : Fin 1024), q < 256 → r.val = row d.val q → u (ix3 0 r ch) = S5Spec.tok P d b (T + q) ch
  st : ∀ (s k : Fin 8) (j : Fin 128), st (ix3 s k j)
    = part s.val (S5Spec.st P d b (grp k ⟨s.val % 4, by omega⟩ j) (plc j) T)

variable {P : S5Spec.Par} {d b : Fin 2} {T : ℕ} {X : Ins Ideal} {u : Vec Ideal S1x256x1024 .bf16} {st : Vec Ideal S8x8x128 .f32}

theorem lr_at (q : Fin 4) (k : Fin 8) (j : Fin 128) : lr X q.val (ix2 k j) = X.x7 (ix4 0 q k j) := by
  unfold lr
  refine (pay194_at _ k j).trans (congrArg X.x7 (funext fun a => Fin.ext ?_))
  match a with
  | 0 => rfl
  | 1 => show q.val % 4 + 1 * 0 = q.val; omega
  | 2 => show 0 + 1 * k.val = k.val; omega
  | 3 => show 0 + 1 * j.val = j.val; omega

theorem li_at (q : Fin 4) (k : Fin 8) (j : Fin 128) : li X q.val (ix2 k j) = X.x8 (ix4 0 q k j) := by
  unfold li
  refine (pay194_at _ k j).trans (congrArg X.x8 (funext fun a => Fin.ext ?_))
  match a with
  | 0 => rfl
  | 1 => show q.val % 4 + 1 * 0 = q.val; omega
  | 2 => show 0 + 1 * k.val = k.val; omega
  | 3 => show 0 + 1 * j.val = j.val; omega

/-- A row of the products: a sum over the chunk's channels. -/
theorem gRow_at (B : Vec Ideal S1x8x128x1024 .bf16) (r : Fin 256) (s k : Fin 8) (j : Fin 128) :
    gRow u B r.val s.val (ix3 0 k j)
      = ∑ i : Fin 128, u (ix3 0 r ⟨128 * k.val + i.val, by omega⟩) * B (ix4 0 k i ⟨128 * s.val + j.val, by omega⟩) := by
  unfold gRow buAt bu
  refine (pay10_at _ _ _ _).trans (Finset.sum_congr rfl fun i _ => congrArg₂ (fun x y : EReal => x * y)
    (congrArg u (funext fun a => Fin.ext ?_)) (congrArg B (funext fun a => Fin.ext ?_)))
  · match a with
    | 0 => rfl
    | 1 => show 0 + 1 * ((r.val % 256 + 264 * k.val) % 264 % 256) = r.val; omega
    | 2 => show 128 * ((8 * ((r.val % 256 + 264 * k.val) / 264) + s.val % 8) / 8 % 8) + 1 * i.val = 128 * k.val + i.val; omega
  · match a with
    | 0 => rfl
    | 1 => show (8 * ((r.val % 256 + 264 * k.val) / 264) + s.val % 8) / 8 % 8 + 1 * 0 = k.val; omega
    | 2 => show 0 + 1 * i.val = i.val; omega
    | 3 => show 0 + 1 * (128 * (s.val % 8) + j.val) = 128 * s.val + j.val; omega

/-- What the products add to the state's parts: the group's own sixteen channels. -/
theorem Feeds.gRow_at (h : Feeds P d b T X u st) (q : ℕ) (hq : q < 256) (s k : Fin 8) (j : Fin 128) :
    gRow u X.x5 (row d.val q) s.val (ix3 0 k j)
      = if s.val < 4 then S5Spec.buR P d b (T + q) (grp k ⟨s.val % 4, by omega⟩ j) (plc j)
        else S5Spec.buI P d b (T + q) (grp k ⟨s.val % 4, by omega⟩ j) (plc j) := by
  refine (Body.gRow_at X.x5 ⟨row d.val q, row_lt _ hq⟩ s k j).trans ?_
  have e : ∀ i : Fin 128, u (ix3 0 ⟨row d.val q, row_lt _ hq⟩ ⟨128 * k.val + i.val, by omega⟩) * X.x5 (ix4 0 k i ⟨128 * s.val + j.val, by omega⟩)
      = if i.val / 16 = (128 * s.val + j.val) % 512 / 64 then S5Spec.tok P d b (T + q) ⟨128 * k.val + i.val, by omega⟩
          * (if 128 * s.val + j.val < 512 then S5Spec.bR P d ⟨k.val * 8 + i.val / 16, by omega⟩ ⟨(128 * s.val + j.val) % 64, by omega⟩ ⟨i.val % 16, by omega⟩
            else S5Spec.bI P d ⟨k.val * 8 + i.val / 16, by omega⟩ ⟨(128 * s.val + j.val) % 64, by omega⟩ ⟨i.val % 16, by omega⟩) else 0 := fun i => by
    rw [h.rows q _ _ hq rfl, h.x5, mul_sel]
  rw [Finset.sum_congr rfl fun i _ => e i]
  refine (sum_only _ _ (fun x : Fin 16 => (⟨16 * ((128 * s.val + j.val) % 512 / 64) + x.val, by omega⟩ : Fin 128)) ?_ ?_ ?_).trans ?_
  · intro x y hxy
    have := congrArg Fin.val hxy
    dsimp only at this
    exact Fin.ext (by omega)
  · intro x
    show (16 * ((128 * s.val + j.val) % 512 / 64) + x.val) / 16 = _
    omega
  · intro i hi
    exact ⟨⟨i.val % 16, by omega⟩, Fin.ext (by show 16 * ((128 * s.val + j.val) % 512 / 64) + i.val % 16 = i.val; omega)⟩
  by_cases hs : s.val < 4
  · rw [if_pos hs]
    unfold S5Spec.buR
    refine Finset.sum_congr rfl fun x _ => ?_
    rw [if_pos (by omega)]
    refine congrArg₂ (fun x y : EReal => x * y) (congrArg _ (Fin.ext ?_)) ?_
    · show 128 * k.val + (16 * ((128 * s.val + j.val) % 512 / 64) + x.val) = 16 * (k.val * 8 + s.val % 4 * 2 + j.val / 64) + x.val
      omega
    · congr 1 <;> refine Fin.ext ?_
      · show k.val * 8 + (16 * ((128 * s.val + j.val) % 512 / 64) + x.val) / 16 = k.val * 8 + s.val % 4 * 2 + j.val / 64
        omega
      · show (128 * s.val + j.val) % 64 = j.val % 64
        omega
      · show (16 * ((128 * s.val + j.val) % 512 / 64) + x.val) % 16 = x.val
        omega
  · rw [if_neg hs]
    unfold S5Spec.buI
    refine Finset.sum_congr rfl fun x _ => ?_
    rw [if_neg (by omega)]
    refine congrArg₂ (fun x y : EReal => x * y) (congrArg _ (Fin.ext ?_)) ?_
    · show 128 * k.val + (16 * ((128 * s.val + j.val) % 512 / 64) + x.val) = 16 * (k.val * 8 + s.val % 4 * 2 + j.val / 64) + x.val
      omega
    · congr 1 <;> refine Fin.ext ?_
      · show k.val * 8 + (16 * ((128 * s.val + j.val) % 512 / 64) + x.val) / 16 = k.val * 8 + s.val % 4 * 2 + j.val / 64
        omega
      · show (128 * s.val + j.val) % 64 = j.val % 64
        omega
      · show (16 * ((128 * s.val + j.val) % 512 / 64) + x.val) % 16 = x.val
        omega

/-- The state after `q` rows of a point: the scan's, `q` steps on. -/
theorem Feeds.state (h : Feeds P d b T X u st) : ∀ (q : ℕ), q ≤ 256 → ∀ (s k : Fin 8) (j : Fin 128),
    Sx X d.val u st q s.val (ix2 k j) = part s.val (S5Spec.st P d b (grp k ⟨s.val % 4, by omega⟩ j) (plc j) (T + q))
  | 0, _, s, k, j => by
    unfold Sx
    refine (pay202_at _ k j).trans (Eq.trans (congrArg st (funext fun a => Fin.ext ?_)) (h.st s k j))
    match a with
    | 0 => show s.val % 8 + 1 * 0 = s.val; omega
    | 1 => show 0 + 1 * k.val = k.val; omega
    | 2 => show 0 + 1 * j.val = j.val; omega
  | q + 1, hq, s, k, j => by
    unfold Sx
    by_cases hs : s.val < 4
    · have e : (⟨s.val % 4, by omega⟩ : Fin 4) = ⟨s.val, hs⟩ := Fin.ext (by show s.val % 4 = s.val; omega)
      have r1 := h.state q (by omega) s k j
      have r2 := h.state q (by omega) ⟨s.val + 4, by omega⟩ k j
      have g := h.gRow_at q (by omega) s k j
      rw [show (⟨(⟨s.val + 4, by omega⟩ : Fin 8).val % 4, by omega⟩ : Fin 4) = ⟨s.val, hs⟩ from Fin.ext (by show (s.val + 4) % 4 = s.val; omega)] at r2
      rw [e] at r1 g ⊢
      dsimp only at r2
      unfold part at r1 r2 ⊢
      rw [if_pos hs] at r1 g ⊢
      rw [if_neg (by omega)] at r2
      rw [if_pos hs]
      refine (pay160_at _ _ _ _ _ k j).trans ?_
      rw [r1, r2, g, lr_at ⟨s.val, hs⟩, li_at ⟨s.val, hs⟩, h.x7, h.x8]
      rfl
    · have e : (⟨s.val % 4, by omega⟩ : Fin 4) = ⟨s.val - 4, by omega⟩ := Fin.ext (by show s.val % 4 = s.val - 4; omega)
      have r1 := h.state q (by omega) ⟨s.val - 4, by omega⟩ k j
      have r2 := h.state q (by omega) s k j
      have g := h.gRow_at q (by omega) s k j
      rw [show (⟨(⟨s.val - 4, by omega⟩ : Fin 8).val % 4, by omega⟩ : Fin 4) = ⟨s.val - 4, by omega⟩ from Fin.ext (by show (s.val - 4) % 4 = s.val - 4; omega)] at r1
      rw [e] at r2 g ⊢
      dsimp only at r1
      unfold part at r1 r2 ⊢
      rw [if_neg hs] at r2 g ⊢
      rw [if_pos (by omega)] at r1
      rw [if_neg hs]
      refine (pay161_at _ _ _ _ _ k j).trans ?_
      rw [r1, r2, g, lr_at ⟨s.val - 4, by omega⟩, li_at ⟨s.val - 4, by omega⟩, h.x7, h.x8]
      rfl

end Cert.S5Ideal.Body

end
-- ==== Proof.S5ValB.lean ====
/- The scan kernel's output block over the extended reals, from what the point's operands hold. -/
module

public import proofs.«01_k».proof.Proof.S5ValA

@[expose] public section

set_option maxRecDepth 16384

noncomputable section

namespace Cert.S5Ideal.Body

open Cert.S5Ideal Cert.S5Ideal.Gen Idealize.ShloMosaic Idealize.ShloMosaic.TcCoe Idealize.SL.Sem

theorem at_slab (Y : ℕ → FVec Ideal S1x256x128 .f32) (r : Fin 256) {n q : ℕ} {v : ℕ} (hv : v < 128) (e : n = 128 * q + v) :
    Y q (ix3 0 r ⟨v, hv⟩) = Y (n / 128) (ix3 0 r ⟨n % 128, Nat.mod_lt _ (by decide)⟩) := by
  obtain rfl : q = n / 128 := by omega
  obtain rfl : v = n % 128 := by omega
  rfl

theorem pay174_at (Y : ℕ → FVec Ideal S1x256x128 .f32) (C : FVec Ideal S1x1x1024x128 .bf16) (r : Fin 256) (l : Fin 128) :
    k0_pay174 (F := Ideal) (Y 0) (Y 1) (Y 2) (Y 3) (Y 4) (Y 5) (Y 6) (Y 7) C (ix4 0 0 r l)
      = ∑ n : Fin 1024, Y (n.val / 128) (ix3 0 r ⟨n.val % 128, Nat.mod_lt _ (by decide)⟩) * C (ix4 0 0 n l) := by
  pointwise [k0_pay174]
  refine Finset.sum_congr rfl fun n _ => congrArg (fun x : EReal => x * C (ix4 0 0 n l)) ?_
  repeat' split
  all_goals exact at_slab Y r _ (by omega)

/-- A sum over both parts' lanes, of which one group's sixty-four stay in each part. -/
theorem sum_parts (f : Fin 1024 → EReal) (fr fi : Fin 64 → EReal) (a : ℕ) (ha : a < 8)
    (h0 : ∀ n : Fin 1024, f n = if n.val % 512 / 64 = a then f n else 0)
    (hr : ∀ p : Fin 64, f ⟨64 * a + p.val, by omega⟩ = fr p) (hi : ∀ p : Fin 64, f ⟨512 + (64 * a + p.val), by omega⟩ = fi p) :
    ∑ n, f n = ∑ p, fr p + ∑ p, fi p := by
  rw [Finset.sum_congr rfl fun n _ => h0 n]
  refine (sum_only f _ (fun z : Fin 64 ⊕ Fin 64 => Sum.elim (fun p => (⟨64 * a + p.val, by omega⟩ : Fin 1024)) (fun p => ⟨512 + (64 * a + p.val), by omega⟩) z) ?_ ?_ ?_).trans ?_
  · rintro (x | x) (y | y) hxy <;> have := congrArg Fin.val hxy <;> dsimp only [Sum.elim_inl, Sum.elim_inr] at this
    · exact congrArg _ (Fin.ext (by omega))
    · omega
    · omega
    · exact congrArg _ (Fin.ext (by omega))
  · rintro (x | x)
    · show (64 * a + x.val) % 512 / 64 = a
      omega
    · show (512 + (64 * a + x.val)) % 512 / 64 = a
      omega
  · intro n hn
    by_cases h : n.val < 512
    · exact ⟨.inl ⟨n.val % 64, by omega⟩, Fin.ext (by show 64 * a + n.val % 64 = n.val; omega)⟩
    · exact ⟨.inr ⟨n.val % 64, by omega⟩, Fin.ext (by show 512 + (64 * a + n.val % 64) = n.val; omega)⟩
  · rw [Fintype.sum_sum_type]
    exact congrArg₂ (fun x y : EReal => x + y) (Finset.sum_congr rfl fun p _ => hr p) (Finset.sum_congr rfl fun p _ => hi p)

/-- The readout after `n` steps at channel `ch`. -/
def readout (P : S5Spec.Par) (d b : Fin 2) (n : ℕ) (ch : Fin 1024) : EReal :=
  ∑ p : Fin 64, (S5Spec.st P d b ⟨ch.val / 16, by omega⟩ p n).1 * P.cre (ix5 0 d ⟨ch.val / 16, by omega⟩ ⟨ch.val % 16, by omega⟩ p)
    + ∑ p : Fin 64, (S5Spec.st P d b ⟨ch.val / 16, by omega⟩ p n).2 * -P.cim (ix5 0 d ⟨ch.val / 16, by omega⟩ ⟨ch.val % 16, by omega⟩ p)

variable {P : S5Spec.Par} {d b : Fin 2} {T : ℕ} {X : Ins Ideal} {u : Vec Ideal S1x256x1024 .bf16} {st : Vec Ideal S8x8x128 .f32}

theorem ldc_at (x6 : Vec Ideal S1x8x1024x128 .bf16) (k : Fin 8) (n : Fin 1024) (l : Fin 128) :
    ldc x6 k.val (ix4 0 0 n l) = x6 (ix4 0 k n l) := by
  unfold ldc
  refine congrArg x6 (funext fun a => Fin.ext ?_)
  match a with
  | 0 => rfl
  | 1 => show k.val % 8 + 1 * 0 = k.val; omega
  | 2 => show 0 + 1 * n.val = n.val; omega
  | 3 => show 0 + 1 * l.val = l.val; omega

theorem tl_at (k s : Fin 8) (r : Fin 256) (l : Fin 128) :
    tl (rowsOut X d.val u st) k.val s.val (ix3 0 r l) = Sx X d.val u st (row d.val r.val + 1) s.val (ix2 k l) := by
  unfold tl rowsOut
  show Sx X d.val u st (row d.val ((264 * (k.val % 8) + 1 * r.val) % 264) + 1) (s.val % 8 + 1 * 0) _ = _
  rw [show (264 * (k.val % 8) + 1 * r.val) % 264 = r.val by omega, show s.val % 8 + 1 * 0 = s.val by omega]
  refine congrArg _ (funext fun a => Fin.ext ?_)
  match a with
  | 0 => show (264 * (k.val % 8) + 1 * r.val) / 264 = k.val; omega
  | 1 => show 0 + 1 * l.val = l.val; omega

/-- The output block's entries: the readout after the row's own step. -/
theorem Feeds.block (h : Feeds P d b T X u st) (r : Fin 256) (ch : Fin 1024) :
    oOut (rowsOut X d.val u st) X.x6 (ix4 0 0 r ch) = readout P d b (T + (row d.val r.val + 1)) ch := by
  have hrow := row_lt d.val r.isLt
  unfold oOut outChunk
  refine (pay174_at (fun s => tl (rowsOut X d.val u st) (ch.val / 128) s) _ r ⟨ch.val % 128, by omega⟩).trans ?_
  have e : ∀ n : Fin 1024, tl (rowsOut X d.val u st) (ch.val / 128) (n.val / 128) (ix3 0 r ⟨n.val % 128, Nat.mod_lt _ (by decide)⟩)
      * ldc X.x6 (ch.val / 128) (ix4 0 0 n ⟨ch.val % 128, by omega⟩)
      = part (n.val / 128) (S5Spec.st P d b (grp ⟨ch.val / 128, by omega⟩ ⟨n.val / 128 % 4, by omega⟩ ⟨n.val % 128, Nat.mod_lt _ (by decide)⟩)
          (plc ⟨n.val % 128, Nat.mod_lt _ (by decide)⟩) (T + (row d.val r.val + 1)))
        * X.x6 (ix4 0 ⟨ch.val / 128, by omega⟩ n ⟨ch.val % 128, by omega⟩) := fun n => by
    refine congrArg₂ (fun x y : EReal => x * y) ?_ (ldc_at X.x6 ⟨ch.val / 128, by omega⟩ n _)
    exact (tl_at ⟨ch.val / 128, by omega⟩ ⟨n.val / 128, by omega⟩ r _).trans (h.state _ (by omega) ⟨n.val / 128, by omega⟩ _ _)
  refine (Finset.sum_congr rfl fun n _ => e n).trans ?_
  clear e
  refine sum_parts _ _ _ (ch.val % 128 / 16) (by omega) ?_ ?_ ?_
  · intro n
    rw [h.x6]
    split
    · rw [mul_sel]
      split <;> rfl
    · rw [mul_neg_sel]
      split <;> rfl
  · intro p
    dsimp only
    rw [h.x6, if_pos (by show 64 * (ch.val % 128 / 16) + p.val < 512; omega), mul_sel,
      if_pos (by show (64 * (ch.val % 128 / 16) + p.val) % 512 / 64 = ch.val % 128 / 16; omega)]
    unfold part
    rw [if_pos (by omega)]
    congr 1
    · congr 2 <;> refine Fin.ext ?_
      · show ch.val / 128 * 8 + (64 * (ch.val % 128 / 16) + p.val) / 128 % 4 * 2 + (64 * (ch.val % 128 / 16) + p.val) % 128 / 64 = ch.val / 16
        omega
      · show (64 * (ch.val % 128 / 16) + p.val) % 128 % 64 = p.val
        omega
    · congr 2 <;> refine Fin.ext ?_
      · show ch.val / 128 * 8 + (64 * (ch.val % 128 / 16) + p.val) % 512 / 64 = ch.val / 16
        omega
      · show ch.val % 128 % 16 = ch.val % 16
        omega
      · show (64 * (ch.val % 128 / 16) + p.val) % 64 = p.val
        omega
  · intro p
    dsimp only
    rw [h.x6, if_neg (by show ¬ 512 + (64 * (ch.val % 128 / 16) + p.val) < 512; omega), mul_neg_sel,
      if_pos (by show (512 + (64 * (ch.val % 128 / 16) + p.val)) % 512 / 64 = ch.val % 128 / 16; omega)]
    unfold part
    rw [if_neg (by omega)]
    congr 1
    · congr 2 <;> refine Fin.ext ?_
      · show ch.val / 128 * 8 + (512 + (64 * (ch.val % 128 / 16) + p.val)) / 128 % 4 * 2 + (512 + (64 * (ch.val % 128 / 16) + p.val)) % 128 / 64 = ch.val / 16
        omega
      · show (512 + (64 * (ch.val % 128 / 16) + p.val)) % 128 % 64 = p.val
        omega
    · congr 3 <;> refine Fin.ext ?_
      · show ch.val / 128 * 8 + (512 + (64 * (ch.val % 128 / 16) + p.val)) % 512 / 64 = ch.val / 16
        omega
      · show ch.val % 128 % 16 = ch.val % 16
        omega
      · show (512 + (64 * (ch.val % 128 / 16) + p.val)) % 64 = p.val
        omega

/-- The state a point leaves: 256 steps on. -/
theorem Feeds.next (h : Feeds P d b T X u st) (s k : Fin 8) (j : Fin 128) :
    stOut X d.val u st (ix3 s k j) = part s.val (S5Spec.st P d b (grp k ⟨s.val % 4, by omega⟩ j) (plc j) (T + 256)) :=
  h.state 256 le_rfl s k j

end Cert.S5Ideal.Body

end
-- ==== Proof.S5EntryB.lean ====
module

public import proofs.«01_k».proof.Proof.S5Entry
public import proofs.«01_k».proof.Proof.S5Cat
public import proofs.«01_k».proof.Proof.S5Spec
public import Idealize.ShloMosaic.Lib.StableHlo.RunRead
public import Idealize.ShloMosaic.Lib.Pipeline.ValueKit
public import Idealize.ShloMosaic.Lib.Pipeline.ReadBack

@[expose] public section

set_option maxRecDepth 16384

noncomputable section

/-! What the host line leaves in the operands it computes for the kernel, over the extended reals. -/

namespace Cert.S5Ideal.Body

open Cert.S5Ideal Cert.S5Ideal.Gen Idealize.ShloMosaic Idealize.ShloMosaic.TcCoe Idealize.SL.Sem

variable (m : (ℓ : Loc nD τ sig) → Buf (Elt Ideal) ℓ)

attribute [local congr] Cert.S5Cat.concatenate_two

set_option maxHeartbeats 40000000 in
theorem bd_at (c : Dev nD) (d : Fin 2) (k : Fin 8) (r : Fin 128) (n : Fin 1024) :
    V m c main_v208 (ix4 d k r n) = (if n.val < 512 then S5Spec.bR (par m c) d ⟨k.val * 8 + r.val / 16, by omega⟩ ⟨n.val % 64, by omega⟩ ⟨r.val % 16, by omega⟩
      else S5Spec.bI (par m c) d ⟨k.val * 8 + r.val / 16, by omega⟩ ⟨n.val % 64, by omega⟩ ⟨r.val % 16, by omega⟩) * (if r.val / 16 = n.val % 512 / 64 then 1 else 0 : EReal) := by
  suffices key : ∀ z : EReal, z = ((if n.val < 512 then S5Spec.bR (par m c) d ⟨k.val * 8 + r.val / 16, by omega⟩ ⟨n.val % 64, by omega⟩ ⟨r.val % 16, by omega⟩
      else S5Spec.bI (par m c) d ⟨k.val * 8 + r.val / 16, by omega⟩ ⟨n.val % 64, by omega⟩ ⟨r.val % 16, by omega⟩) * (if r.val / 16 = n.val % 512 / 64 then 1 else 0 : EReal)) → V m c main_v208 (ix4 d k r n) = z from key _ rfl
  intro z hz
  unfold V
  after_reads_simp
  try simp only [id_eq, StableHlo.launchContents_devRef]
  pointwise
  subst hz
  have e2 : (par m c).re = m (c, Proc.tc.devRef main_arg2) := rfl
  have e3 : (par m c).im = m (c, Proc.tc.devRef main_arg3) := rfl
  have e4 : (par m c).dt = m (c, Proc.tc.devRef main_arg4) := rfl
  have e5 : (par m c).bre = m (c, Proc.tc.devRef main_arg5) := rfl
  have e6 : (par m c).bim = m (c, Proc.tc.devRef main_arg6) := rfl
  by_cases hn : n.val < 512
  · have h1 := eye_nat (a := r.val / 16) (b := n.val / 64) (by omega) (by omega)
    simp only [dif_pos hn, if_pos hn, h1, show n.val % 512 = n.val from Nat.mod_eq_of_lt hn, S5Spec.bR, S5Spec.qR, S5Spec.qI, S5Spec.den, S5Spec.lamR, S5Spec.lamI, e2, e3, e4, e5, e6]
    by_cases hd : d.val < 1
    · have h0 : (0 : Fin 2) = d := Fin.ext (by show 0 = d.val; omega)
      rw [dif_pos hd]
      simp only [← h0]
    · have h0 : (1 : Fin 2) = d := Fin.ext (by show 1 = d.val; omega)
      rw [dif_neg hd]
      simp only [← h0]
  · have h1 := eye_nat (a := r.val / 16) (b := (n.val - 512) / 64) (by omega) (by omega)
    simp only [dif_neg hn, if_neg hn, h1, show (n.val - 512) % 64 = n.val % 64 by omega, show n.val % 512 = n.val - 512 by omega, S5Spec.bI, S5Spec.qR, S5Spec.qI, S5Spec.den, S5Spec.lamR, S5Spec.lamI, e2, e3, e4, e5, e6]
    by_cases hd : d.val < 1
    · have h0 : (0 : Fin 2) = d := Fin.ext (by show 0 = d.val; omega)
      rw [dif_pos hd]
      simp only [← h0]
    · have h0 : (1 : Fin 2) = d := Fin.ext (by show 1 = d.val; omega)
      rw [dif_neg hd]
      simp only [← h0]

end Cert.S5Ideal.Body

end
-- ==== Proof.S5EntryC.lean ====
module

public import proofs.«01_k».proof.Proof.S5Entry
public import proofs.«01_k».proof.Proof.S5Cat
public import proofs.«01_k».proof.Proof.S5Spec
public import Idealize.ShloMosaic.Lib.StableHlo.RunRead
public import Idealize.ShloMosaic.Lib.Pipeline.ValueKit
public import Idealize.ShloMosaic.Lib.Pipeline.ReadBack

@[expose] public section

set_option maxRecDepth 16384

noncomputable section

/-! What the host line leaves in the operands it computes for the kernel, over the extended reals. -/

namespace Cert.S5Ideal.Body

open Cert.S5Ideal Cert.S5Ideal.Gen Idealize.ShloMosaic Idealize.ShloMosaic.TcCoe Idealize.SL.Sem

variable (m : (ℓ : Loc nD τ sig) → Buf (Elt Ideal) ℓ)

attribute [local congr] Cert.S5Cat.concatenate_two

set_option maxHeartbeats 40000000 in
theorem cd_at (c : Dev nD) (d : Fin 2) (k : Fin 8) (r : Fin 1024) (n : Fin 128) :
    V m c main_v211 (ix4 d k r n) = if r.val < 512 then (par m c).cre (ix5 0 d ⟨k.val * 8 + r.val % 512 / 64, by omega⟩ ⟨n.val % 16, by omega⟩ ⟨r.val % 64, by omega⟩) * (if r.val % 512 / 64 = n.val / 16 then 1 else 0 : EReal)
      else -((par m c).cim (ix5 0 d ⟨k.val * 8 + r.val % 512 / 64, by omega⟩ ⟨n.val % 16, by omega⟩ ⟨r.val % 64, by omega⟩) * (if r.val % 512 / 64 = n.val / 16 then 1 else 0 : EReal)) := by
  suffices key : ∀ z : EReal, z = (if r.val < 512 then (par m c).cre (ix5 0 d ⟨k.val * 8 + r.val % 512 / 64, by omega⟩ ⟨n.val % 16, by omega⟩ ⟨r.val % 64, by omega⟩) * (if r.val % 512 / 64 = n.val / 16 then 1 else 0 : EReal)
      else -((par m c).cim (ix5 0 d ⟨k.val * 8 + r.val % 512 / 64, by omega⟩ ⟨n.val % 16, by omega⟩ ⟨r.val % 64, by omega⟩) * (if r.val % 512 / 64 = n.val / 16 then 1 else 0 : EReal))) → V m c main_v211 (ix4 d k r n) = z from key _ rfl
  intro z hz
  unfold V
  after_reads_simp
  try simp only [id_eq, StableHlo.launchContents_devRef]
  pointwise
  subst hz
  have e7 : (par m c).cre = m (c, Proc.tc.devRef main_arg7) := rfl
  have e8 : (par m c).cim = m (c, Proc.tc.devRef main_arg8) := rfl
  by_cases hr : r.val < 512
  · have h1 := eye_nat (a := r.val / 64) (b := n.val / 16) (by omega) (by omega)
    simp only [dif_pos hr, if_pos hr, h1, show r.val % 512 = r.val from Nat.mod_eq_of_lt hr, e7]
    by_cases hd : d.val < 1
    · have h0 : (0 : Fin 2) = d := Fin.ext (by show 0 = d.val; omega)
      rw [dif_pos hd]
      simp only [← h0]
    · have h0 : (1 : Fin 2) = d := Fin.ext (by show 1 = d.val; omega)
      rw [dif_neg hd]
      simp only [← h0]
  · have h1 := eye_nat (a := (r.val - 512) / 64) (b := n.val / 16) (by omega) (by omega)
    simp only [dif_neg hr, if_neg hr, h1, show (r.val - 512) % 64 = r.val % 64 by omega, show r.val % 512 = r.val - 512 by omega, e8]
    by_cases hd : d.val < 1
    · have h0 : (0 : Fin 2) = d := Fin.ext (by show 0 = d.val; omega)
      rw [dif_pos hd]
      simp only [← h0]
    · have h0 : (1 : Fin 2) = d := Fin.ext (by show 1 = d.val; omega)
      rw [dif_neg hd]
      simp only [← h0]

end Cert.S5Ideal.Body

end
-- ==== Proof.S5Val.lean ====
/- The scan kernel over the extended reals: what each grid point finds in its operands and in the carried state, and
   the output array after the run, the scan's readout. -/
module

public import proofs.«01_k».proof.Proof.S5ValB
public import proofs.«01_k».proof.Proof.S5EntryB
public import proofs.«01_k».proof.Proof.S5EntryC

@[expose] public section

set_option maxRecDepth 16384

noncomputable section

namespace Cert.S5Ideal.Body

open Cert.S5Ideal Cert.S5Ideal.Gen Idealize.ShloMosaic Idealize.ShloMosaic.TcCoe Idealize.SL.Sem
open Idealize.ShloMosaic.Pipeline (Dat)

variable (m : (ℓ : Loc nD τ sig) → Buf (Elt Ideal) ℓ)

/-- The block of latent tokens a point takes. -/
def blkOf (t : ℕ) : ℕ := if t / 66 = 0 then t % 33 - 1 else 31 - (t % 33 - 1)

/-- The windows' block indices at a grid point. -/
theorem idx : ∀ t : Fin cfg0.N, win0_0.index t = ![t.val / 33 % 2, 0, 0]
    ∧ win0_1.index t = ![t.val / 33 % 2, if t.val / 66 = 0 then t.val % 33 - 1 else 31 - (t.val % 33 - 1), 0]
    ∧ win0_2.index t = ![t.val / 66, 0, 0, 0] ∧ win0_3.index t = ![t.val / 66, 0, 0, 0]
    ∧ win0_4.index t = ![t.val / 66, 0, 0, 0] ∧ win0_5.index t = ![t.val / 66, 0, 0, 0]
    ∧ win0_6.index t = ![t.val / 66, t.val / 33 % 2, if t.val / 66 = 0 then t.val % 33 - 1 else 31 - (t.val % 33 - 1), 0] :=
  (by decide +kernel : ∀ t : Fin grid0.N, _)

/-- The grid coordinates the body reads. -/
theorem crd : ∀ t : Fin cfg0.N, (grid0.coords t 0).val = t.val / 66 ∧ (grid0.coords t 2).val = t.val % 33 :=
  (by decide +kernel : ∀ t : Fin grid0.N, _)

/-- A point's direction and batch. -/
def dirOf (t : Fin cfg0.N) : Fin 2 := ⟨t.val / 66, by have : t.val < 132 := t.isLt; omega⟩
def batOf (t : Fin cfg0.N) : Fin 2 := ⟨t.val / 33 % 2, by omega⟩

theorem x7_at (c : Dev nD) (t : Fin cfg0.N) (q : Fin 4) (k : Fin 8) (j : Fin 128) :
    (insAt m c t).x7 (ix4 0 q k j) = S5Spec.lamR (par m c) (dirOf t) (grp k q j) (plc j) := by
  refine Eq.trans ?_ (lamR_at m c (dirOf t) q k j)
  unfold insAt dirOf
  dsimp only
  blk_ext [iblk, idx t]

theorem x8_at (c : Dev nD) (t : Fin cfg0.N) (q : Fin 4) (k : Fin 8) (j : Fin 128) :
    (insAt m c t).x8 (ix4 0 q k j) = S5Spec.lamI (par m c) (dirOf t) (grp k q j) (plc j) := by
  refine Eq.trans ?_ (lamI_at m c (dirOf t) q k j)
  unfold insAt dirOf
  dsimp only
  blk_ext [iblk, idx t]

theorem x5_at (c : Dev nD) (t : Fin cfg0.N) (k : Fin 8) (r : Fin 128) (n : Fin 1024) :
    (insAt m c t).x5 (ix4 0 k r n) = V m c main_v208 (ix4 (dirOf t) k r n) := by
  unfold insAt dirOf
  dsimp only
  blk_ext [iblk, idx t]

theorem x6_at (c : Dev nD) (t : Fin cfg0.N) (k : Fin 8) (r : Fin 1024) (n : Fin 128) :
    (insAt m c t).x6 (ix4 0 k r n) = V m c main_v211 (ix4 (dirOf t) k r n) := by
  unfold insAt dirOf
  dsimp only
  blk_ext [iblk, idx t]

theorem x3_at (c : Dev nD) (t : Fin cfg0.N) (r : Fin 256) (ch : Fin 1024) :
    (insAt m c t).x3 (ix3 0 r ch) = (par m c).uc (ix3 (batOf t) r ch) := by
  refine Eq.trans ?_ (congrFun (V_main_arg0 m c) (ix3 (batOf t) r ch))
  unfold insAt batOf
  dsimp only
  blk_ext [iblk, idx t]

theorem x4_at (c : Dev nD) (t : Fin cfg0.N) (r : Fin 256) (ch : Fin 1024) (w : Fin 8192)
    (hw : w.val = (if t.val / 66 = 0 then t.val % 33 - 1 else 31 - (t.val % 33 - 1)) * 256 + r.val) :
    (insAt m c t).x4 (ix3 0 r ch) = (par m c).px (ix3 (batOf t) w ⟨ch.val, Nat.lt_trans ch.isLt (by decide)⟩) := by
  refine Eq.trans ?_ (congrFun (V_main_arg1 m c) (ix3 (batOf t) w ⟨ch.val, Nat.lt_trans ch.isLt (by decide)⟩))
  obtain ⟨w, hlt⟩ := w
  dsimp only at hw
  subst hw
  unfold insAt batOf
  dsimp only
  blk_ext [iblk, idx t]

/-- The rows a point takes: the sequence's next 256 entries. -/
theorem rows_at (c : Dev nD) (t : Fin cfg0.N) (q : ℕ) (r : Fin 256) (ch : Fin 1024) (hq : q < 256) (hr : r.val = row (dirOf t).val q) :
    rowsIn (insAt m c t) (grid0.coords t) (ix3 0 r ch) = S5Spec.tok (par m c) (dirOf t) (batOf t) (256 * (t.val % 33) + q) ch := by
  have hN : t.val < 132 := t.isLt
  have hd : (dirOf t).val = t.val / 66 := rfl
  rw [hd] at hr
  unfold row at hr
  unfold rowsIn S5Spec.tok
  rw [(crd t).2]
  by_cases h : t.val % 33 = 0
  · rw [if_pos h, if_pos (by omega), x3_at]
    refine congrArg (fun x => (par m c).uc (ix3 (batOf t) x ch)) (Fin.ext ?_)
    show r.val = (if t.val / 66 = 0 then 256 * (t.val % 33) + q else 255 - (256 * (t.val % 33) + q)) % 256
    split at hr <;> rename_i h0
    · rw [if_pos h0]; omega
    · rw [if_neg h0]; omega
  · rw [if_neg h, if_neg (by omega)]
    refine x4_at m c t r ch _ ?_
    show (if t.val / 66 = 0 then 256 * (t.val % 33) + q - 256 else 8447 - (256 * (t.val % 33) + q)) % 8192 = _
    split at hr <;> rename_i h0
    · rw [if_pos h0, if_pos h0]; omega
    · rw [if_neg h0, if_neg h0]; omega

/-- What a point finds: with the carried state as the scan has it, the whole point is the scan's. -/
theorem feeds (c : Dev nD) (t : Fin cfg0.N) (st : Vec Ideal S8x8x128 .f32)
    (h : t.val % 33 ≠ 0 → ∀ (s k : Fin 8) (j : Fin 128), st (ix3 s k j)
      = part s.val (S5Spec.st (par m c) (dirOf t) (batOf t) (grp k ⟨s.val % 4, by omega⟩ j) (plc j) (256 * (t.val % 33)))) :
    Feeds (par m c) (dirOf t) (batOf t) (256 * (t.val % 33)) (insAt m c t) (rowsIn (insAt m c t) (grid0.coords t)) (stIn (grid0.coords t) st) where
  x7 := x7_at m c t
  x8 := x8_at m c t
  x5 := fun k r n => (x5_at m c t k r n).trans (bd_at m c (dirOf t) k r n)
  x6 := fun k r n => (x6_at m c t k r n).trans (cd_at m c (dirOf t) k r n)
  rows := rows_at m c t
  st := fun s k j => by
    unfold stIn
    rw [(crd t).2]
    by_cases h0 : t.val % 33 = 0
    · rw [if_pos h0, h0]
      refine (pay189_at s k j).trans ?_
      unfold part
      split <;> rfl
    · rw [if_neg h0]
      exact h h0 s k j

/-- The carried state at a point that is not its pass's first. -/
theorem state_at (c : Dev nD) : ∀ (n : ℕ) (hn : n < cfg0.N), n % 33 ≠ 0 → ∀ (s k : Fin 8) (j : Fin 128),
    stAt m c n (Nat.le_of_lt hn) (ix3 s k j)
      = part s.val (S5Spec.st (par m c) (dirOf ⟨n, hn⟩) (batOf ⟨n, hn⟩) (grp k ⟨s.val % 4, by omega⟩ j) (plc j) (256 * (n % 33)))
  | 0, hn, h, _, _, _ => absurd rfl h
  | n + 1, hn, h, s, k, j => by
    have hn' : n < cfg0.N := Nat.lt_of_succ_lt hn
    have hF := feeds m c ⟨n, hn'⟩ (stAt m c n (Nat.le_of_lt hn')) (fun h0 => state_at c n hn' h0)
    have e := hF.next s k j
    have e1 : dirOf ⟨n + 1, hn⟩ = dirOf ⟨n, hn'⟩ := Fin.ext (by show (n + 1) / 66 = n / 66; omega)
    have e2 : batOf ⟨n + 1, hn⟩ = batOf ⟨n, hn'⟩ := Fin.ext (by show (n + 1) / 33 % 2 = n / 33 % 2; omega)
    rw [e1, e2, show 256 * ((n + 1) % 33) = 256 * (n % 33) + 256 by omega]
    refine Eq.trans ?_ e
    show stepAt m c ⟨n, hn'⟩ (stAt m c n (Nat.le_of_lt hn')) (ix3 s k j) = _
    unfold stepAt
    rw [(crd ⟨n, hn'⟩).1]
    rfl

/-- A point's output block: the readout of its latent tokens. -/
theorem point (c : Dev nD) (t : Fin cfg0.N) (h : t.val % 33 ≠ 0) (r : Fin 256) (ch : Fin 1024) (w : Fin 8192)
    (hw : w.val = (if t.val / 66 = 0 then t.val % 33 - 1 else 31 - (t.val % 33 - 1)) * 256 + r.val) :
    blockAt m c t (stAt m c t.val (Nat.le_of_lt t.isLt)) (ix4 0 0 r ch) = S5Spec.out (par m c) (dirOf t) (batOf t) w ch := by
  have hN : t.val < 132 := t.isLt
  have hF := feeds m c t (stAt m c t.val (Nat.le_of_lt t.isLt)) (fun h0 => state_at m c t.val t.isLt h0)
  have e := hF.block r ch
  have ha : S5Spec.after (dirOf t) w = 256 * (t.val % 33) + (row (dirOf t).val r.val + 1) := by
    unfold S5Spec.after row
    rw [hw]
    show (if t.val / 66 = 0 then _ else _) = 256 * (t.val % 33) + ((if t.val / 66 = 0 then _ else _) + 1)
    split <;> omega
  unfold S5Spec.out
  rw [ha]
  refine Eq.trans ?_ e
  unfold blockAt
  rw [(crd t).1]
  rfl

theorem out_congr (P : S5Spec.Par) {d d' b b' : Fin 2} {n n' : Fin 8192} {ch ch' : Fin 1024} (h0 : d.val = d'.val) (h1 : b.val = b'.val)
    (h2 : n.val = n'.val) (h3 : ch.val = ch'.val) : S5Spec.out P d b n ch = S5Spec.out P d' b' n' ch' := by
  obtain rfl := Fin.ext h0
  obtain rfl := Fin.ext h1
  obtain rfl := Fin.ext h2
  obtain rfl := Fin.ext h3
  rfl

/-- The output array after the run is the scan's readout. -/
theorem final (c : Dev nD) : (dats m 0 c).arrAt 6 cfg0.N = fun x => S5Spec.out (par m c) (x 0) (x 1) (x 2) (x 3) := by
  refine (dats m 0 c).arrAt_eq_of_covers 6 _ (by decide +kernel) fun t hf y => ?_
  have hN : t.val < 132 := t.isLt
  have hy0 : (y 0).val < 1 := (y 0).isLt
  have hy1 : (y 1).val < 1 := (y 1).isLt
  have hy2 : (y 2).val < 256 := (y 2).isLt
  have hy3 : (y 3).val < 1024 := (y 3).isLt
  have ht : t.val % 33 ≠ 0 := fun h0 => by
    have := noFlush_first t ((crd t).2.trans h0)
    rw [hf] at this
    exact absurd this (by decide)
  rw [after0_6]
  have e0 : ((((cfg0.win 6).blk t).view.emb y) 0).val = t.val / 66 + (y 0).val := by blk_simp [idx t]
  have e1 : ((((cfg0.win 6).blk t).view.emb y) 1).val = t.val / 33 % 2 + (y 1).val := by blk_simp [idx t]
  have e2 : ((((cfg0.win 6).blk t).view.emb y) 2).val = (if t.val / 66 = 0 then t.val % 33 - 1 else 31 - (t.val % 33 - 1)) * 256 + (y 2).val := by blk_simp [idx t]
  have e3 : ((((cfg0.win 6).blk t).view.emb y) 3).val = (y 3).val := by blk_simp [idx t]
  have ey : y = ix4 0 0 ⟨(y 2).val, hy2⟩ ⟨(y 3).val, hy3⟩ := funext fun a => Fin.ext (by
    match a with
    | 0 => show (y 0).val = 0; omega
    | 1 => show (y 1).val = 0; omega
    | 2 => rfl
    | 3 => rfl)
  refine ((congrArg (blockAt m c t (stAt m c t.val (Nat.le_of_lt t.isLt))) ey).trans
    (point m c t ht ⟨(y 2).val, hy2⟩ ⟨(y 3).val, hy3⟩ (((cfg0.win 6).blk t).view.emb y 2) e2)).trans ?_
  refine out_congr _ ?_ ?_ rfl e3.symm
  · rw [e0]
    show t.val / 66 = t.val / 66 + (y 0).val
    omega
  · rw [e1]
    show t.val / 33 % 2 = t.val / 33 % 2 + (y 1).val
    omega

/-- The run with the output array named, the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v218) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have h6 : θ_run defs (onTc (τ := τ) (main (F := Ideal))) ⟨m, fun _ => 0, ρ⟩ fun r => ∀ c : Dev nD,
      r.2.mem ((c.tc : Thread nD τ).loc main_v218) = (dats m 0 c).arrAt 6 cfg0.N :=
    (θ_run defs _ _).mono (fun _ h c => (h c).1 6) (run_main m ρ)
  exact (θ_run defs _ _).mono (fun _ h c => ⟨h.2 c, h.1 c⟩) (θ_run_and (frame_of m ρ (dats m) (A_eq m) (run_main m ρ)) h6)

end Cert.S5Ideal.Body

end
-- ==== Proof.S5RefEntry.lean ====
module

public import proofs.«01_k».proof.Proof.Gen.S5RefIdeal.Run
public import proofs.«01_k».proof.Proof.S5Cat
public import proofs.«01_k».proof.Proof.S5Spec
public import Idealize.ShloMosaic.Lib.Pipeline.ValueKit
public import Idealize.ShloMosaic.Lib.Pipeline.ReadBack
public import Idealize.ShloMosaic.Lib.DynamicIndex

@[expose] public section

set_option maxRecDepth 16384

noncomputable section

/-! What the reference's host line leaves for its scan, over the extended reals. -/

namespace Cert.S5RefIdeal.Value

open Cert.S5RefIdeal Cert.S5RefIdeal.Gen Idealize.ShloMosaic Idealize.ShloMosaic.TcCoe Idealize.ShloMosaic.StableHlo Idealize.SL.Sem

variable (m : (ℓ : Loc nD τ sig) → Buf (Elt Ideal) ℓ)

attribute [local congr] Cert.S5Cat.concatenate_two

/-- The arguments the reference starts from. -/
def par (c : Dev nD) : S5Spec.Par where
  uc := m (c, Proc.tc.devRef main_arg0)
  px := m (c, Proc.tc.devRef main_arg1)
  re := m (c, Proc.tc.devRef main_arg2)
  im := m (c, Proc.tc.devRef main_arg3)
  dt := m (c, Proc.tc.devRef main_arg4)
  bre := m (c, Proc.tc.devRef main_arg5)
  bim := m (c, Proc.tc.devRef main_arg6)
  cre := m (c, Proc.tc.devRef main_arg7)
  cim := m (c, Proc.tc.devRef main_arg8)

theorem dir_cases (d : Fin 2) : d = 0 ∨ d = 1 := by omega

theorem ix3_ext {n₀ n₁ n₂ : ℕ} {a a' : Fin n₀} {b b' : Fin n₁} {e e' : Fin n₂} (ha : a.val = a'.val) (hb : b.val = b'.val) (he : e.val = e'.val) :
    ix3 a b e = ix3 a' b' e' := by
  rw [Fin.ext ha, Fin.ext hb, Fin.ext he]

/-- The contents the scan's loop is entered with. -/
abbrev ent (c : Dev nD) : Valuation τ sig (Elt Ideal) := entryContents preI m c

set_option maxHeartbeats 4000000 in
theorem lamR_at (c : Dev nD) (d : Fin 2) (g p : Fin 64) : ent m c (Proc.devRef .tc main_v67_2) (ix3 d g p) = S5Spec.lamR (par m c) d g p := by
  simp only [ent, entryContents, afterL_cons, afterL_nil]
  after_reads_simp
  try simp only [id_eq, launchContents_devRef]
  pointwise
  rfl

set_option maxHeartbeats 4000000 in
theorem lamI_at (c : Dev nD) (d : Fin 2) (g p : Fin 64) : ent m c (Proc.devRef .tc main_v67_3) (ix3 d g p) = S5Spec.lamI (par m c) d g p := by
  simp only [ent, entryContents, afterL_cons, afterL_nil]
  after_reads_simp
  try simp only [id_eq, launchContents_devRef]
  pointwise
  rfl

set_option maxHeartbeats 4000000 in
theorem bR_at (c : Dev nD) (d : Fin 2) (g p : Fin 64) (h : Fin 16) : ent m c (Proc.devRef .tc main_v50) (ix4 d g p h) = S5Spec.bR (par m c) d g p h := by
  simp only [ent, entryContents, afterL_cons, afterL_nil]
  after_reads_simp
  try simp only [id_eq, launchContents_devRef]
  pointwise
  rfl

set_option maxHeartbeats 4000000 in
theorem bI_at (c : Dev nD) (d : Fin 2) (g p : Fin 64) (h : Fin 16) : ent m c (Proc.devRef .tc main_v59) (ix4 d g p h) = S5Spec.bI (par m c) d g p h := by
  simp only [ent, entryContents, afterL_cons, afterL_nil]
  after_reads_simp
  try simp only [id_eq, launchContents_devRef]
  pointwise
  rfl

set_option maxHeartbeats 4000000 in
theorem tok_at (c : Dev nD) (d b : Fin 2) (t : Fin 8448) (g : Fin 64) (h : Fin 16) : ent m c (Proc.devRef .tc main_v10) (ix5 d b t g h) = S5Spec.tok (par m c) d b t.val (S5Spec.chan g h) := by
  simp only [ent, entryContents, afterL_cons, afterL_nil]
  after_reads_simp
  try simp only [id_eq, launchContents_devRef]
  pointwise
  by_cases hd : d.val < 1
  · have hd' : d.val = 0 := by omega
    rw [dif_pos hd]
    by_cases ht : t.val < 256
    · rw [dif_pos ht]
      unfold S5Spec.tok
      rw [if_pos ht]
      refine congrArg (par m c).uc (ix3_ext rfl ?_ ?_)
      · show t.val = (if d.val = 0 then t.val else 255 - t.val) % 256
        rw [if_pos hd']
        omega
      · show g.val * 16 + h.val = 16 * g.val + h.val
        omega
    · rw [dif_neg ht]
      unfold S5Spec.tok
      rw [if_neg ht]
      refine congrArg (par m c).px (ix3_ext rfl ?_ ?_)
      · show t.val - 256 = (if d.val = 0 then t.val - 256 else 8447 - t.val) % 8192
        rw [if_pos hd']
        omega
      · show g.val * 16 + h.val = 16 * g.val + h.val
        omega
  · have hd' : ¬ d.val = 0 := by omega
    rw [dif_neg hd]
    simp only [List.mem_singleton, zero_ne_one, OfNat.ofNat_ne_one, reduceIte, Fin.isValue, Fin.reduceEq, Nat.reduceEqDiff]
    by_cases ht : t.val < 256
    · rw [dif_pos ht]
      unfold S5Spec.tok
      rw [if_pos ht]
      refine congrArg (par m c).uc (ix3_ext rfl ?_ ?_)
      · show 256 - (t.val + 1) = (if d.val = 0 then t.val else 255 - t.val) % 256
        rw [if_neg hd']
        omega
      · show g.val * 16 + h.val = 16 * g.val + h.val
        omega
    · rw [dif_neg ht]
      unfold S5Spec.tok
      rw [if_neg ht]
      refine congrArg (par m c).px (ix3_ext rfl ?_ ?_)
      · show 8192 - (t.val - 256 + 1) = (if d.val = 0 then t.val - 256 else 8447 - t.val) % 8192
        rw [if_neg hd']
        omega
      · show g.val * 16 + h.val = 16 * g.val + h.val
        omega

set_option maxHeartbeats 4000000 in
theorem bu_open (c : Dev nD) : ent m c (Proc.devRef .tc main_v67_0)
    = (transpose S8448x2x2x64x64 [3, 0, 2, 1, 4] (Host.dotGeneral (F := Ideal) (φ₁ := .f32) (φ₂ := .f32) dot_S2x2x8448x64x16_S2x64x64x16_S2x64x2x8448x64_4_3_12_2_03_01 none (ent m c (Proc.devRef .tc main_v10) : FVec Ideal S2x2x8448x64x16 .f32) (ent m c (Proc.devRef .tc main_v50) : FVec Ideal S2x64x64x16 .f32)) transposes_S2x64x2x8448x64_S8448x2x2x64x64_3_0_2_1_4 : FVec Ideal S8448x2x2x64x64 .f32) := by
  simp only [ent, entryContents, afterL_cons, afterL_nil]
  after_reads_simp
  try simp only [id_eq]

set_option maxHeartbeats 4000000 in
theorem bui_open (c : Dev nD) : ent m c (Proc.devRef .tc main_v67_1)
    = (transpose S8448x2x2x64x64 [3, 0, 2, 1, 4] (Host.dotGeneral (F := Ideal) (φ₁ := .f32) (φ₂ := .f32) dot_S2x2x8448x64x16_S2x64x64x16_S2x64x2x8448x64_4_3_12_2_03_01 none (ent m c (Proc.devRef .tc main_v10) : FVec Ideal S2x2x8448x64x16 .f32) (ent m c (Proc.devRef .tc main_v59) : FVec Ideal S2x64x64x16 .f32)) transposes_S2x64x2x8448x64_S8448x2x2x64x64_3_0_2_1_4 : FVec Ideal S8448x2x2x64x64 .f32) := by
  simp only [ent, entryContents, afterL_cons, afterL_nil]
  after_reads_simp
  try simp only [id_eq]

set_option maxHeartbeats 4000000 in
theorem bu_at (x : FVec Ideal S2x2x8448x64x16 .f32) (y : FVec Ideal S2x64x64x16 .f32) (t : Fin 8448) (d b : Fin 2) (g p : Fin 64) :
    transpose S8448x2x2x64x64 [3, 0, 2, 1, 4] (Host.dotGeneral dot_S2x2x8448x64x16_S2x64x64x16_S2x64x2x8448x64_4_3_12_2_03_01 none x y) transposes_S2x64x2x8448x64_S8448x2x2x64x64_3_0_2_1_4 (ix5 t d b g p)
      = ∑ h : Fin 16, x (ix5 d b t g h) * y (ix4 d g p h) := by
  pointwise

theorem buR_at (c : Dev nD) (t : Fin 8448) (d b : Fin 2) (g p : Fin 64) :
    ent m c (Proc.devRef .tc main_v67_0) (ix5 t d b g p) = S5Spec.buR (par m c) d b t.val g p := by
  rw [bu_open]
  refine (bu_at _ _ t d b g p).trans (Finset.sum_congr rfl fun h _ => ?_)
  rw [tok_at, bR_at]

theorem buI_at (c : Dev nD) (t : Fin 8448) (d b : Fin 2) (g p : Fin 64) :
    ent m c (Proc.devRef .tc main_v67_1) (ix5 t d b g p) = S5Spec.buI (par m c) d b t.val g p := by
  rw [bui_open]
  refine (bu_at _ _ t d b g p).trans (Finset.sum_congr rfl fun h _ => ?_)
  rw [tok_at, bI_at]

theorem zeroR_at (c : Dev nD) (d b : Fin 2) (g p : Fin 64) : ent m c (Proc.devRef .tc main_v67_5) (ix4 d b g p) = (0 : EReal) := by
  simp only [ent, entryContents, afterL_cons, afterL_nil]
  after_reads_simp
  try simp only [id_eq, launchContents_devRef]
  pointwise

theorem zeroI_at (c : Dev nD) (d b : Fin 2) (g p : Fin 64) : ent m c (Proc.devRef .tc main_v67_6) (ix4 d b g p) = (0 : EReal) := by
  simp only [ent, entryContents, afterL_cons, afterL_nil]
  after_reads_simp
  try simp only [id_eq, launchContents_devRef]
  pointwise

theorem ctr_ent (c : Dev nD) : ent m c (Proc.devRef .tc main_v67_4) = (fun _ => BitVec.ofNat 32 0 : IVec S_ 32) := by
  simp only [ent, entryContents, afterL_cons, afterL_nil]
  after_reads_simp
  try simp only [id_eq, launchContents_devRef]
  rfl

end Cert.S5RefIdeal.Value

end
-- ==== Proof.S5RefStep.lean ====
module

public import proofs.«01_k».proof.Proof.Gen.S5RefIdeal.Run
public import proofs.«01_k».proof.Proof.S5RefEntry
public import Idealize.ShloMosaic.Lib.Pipeline.ValueKit
public import Idealize.ShloMosaic.Lib.Pipeline.ReadBack
public import Idealize.ShloMosaic.Lib.DynamicIndex

@[expose] public section

set_option maxRecDepth 16384

noncomputable section

/-! The reference over the extended reals: its scan by induction over the steps, then its readout. -/

namespace Cert.S5RefIdeal.Value

open Cert.S5RefIdeal Cert.S5RefIdeal.Gen Idealize.ShloMosaic Idealize.ShloMosaic.TcCoe Idealize.ShloMosaic.StableHlo Idealize.SL.Sem

variable (m : (ℓ : Loc nD τ sig) → Buf (Elt Ideal) ℓ)

/-- The loop's counter and four zeros, as the starts of a slice. -/
abbrev starts (w : IVec S_ 32) : Fin 5 → (⟨S_, .i32⟩ : BufTy).Contents (Elt Ideal) :=
  ![w, constantI S_ 32 0#32, constantI S_ 32 0#32, constantI S_ 32 0#32, constantI S_ 32 0#32]

theorem starts_at {w : IVec S_ 32} {k : ℕ} (hk : k < 8448) (hw : w = fun _ => BitVec.ofNat 32 k) (a : Fin 5) :
    (starts w a (Shape.Idx.first h_S_)).toInt = ((![k, 0, 0, 0, 0] : Fin 5 → ℕ) a : ℤ) := by
  subst hw
  match a with
  | 0 => exact toInt_ofNat_of_lt (by omega)
  | 1 => rfl
  | 2 => rfl
  | 3 => rfl
  | 4 => rfl

theorem slices_at {k : ℕ} (hk : k < 8448) : S8448x2x2x64x64.Slices ![k, 0, 0, 0, 0] S1x2x2x64x64 := by
  refine ⟨rfl, fun a => ?_⟩
  match a with
  | 0 => show k + 1 ≤ 8448; omega
  | 1 => show 0 + 2 ≤ 2; omega
  | 2 => show 0 + 2 ≤ 2; omega
  | 3 => show 0 + 64 ≤ 64; omega
  | 4 => show 0 + 64 ≤ 64; omega

theorem slice_at (x : FVec Ideal S8448x2x2x64x64 .f32) {w : IVec S_ 32} {k : ℕ} (hk : k < 8448) (hw : w = fun _ => BitVec.ofNat 32 k) (d b : Fin 2) (g p : Fin 64) :
    shapeCast S2x2x64x64 (Host.dynamicSlice S1x2x2x64x64 x (fun a => (starts w a (Shape.Idx.first h_S_)).toInt) sliceFits_S8448x2x2x64x64_S1x2x2x64x64) shapeCasts_S1x2x2x64x64_S2x2x64x64 (ix4 d b g p)
      = x (ix5 ⟨k, hk⟩ d b g p) := by
  rw [Host.dynamicSlice_eq_extractStridedSlice S1x2x2x64x64 x _ ![k, 0, 0, 0, 0] sliceFits_S8448x2x2x64x64_S1x2x2x64x64 (slices_at hk) (starts_at hk hw)]
  pointwise

theorem upd_at (x : FVec Ideal S8448x2x2x64x64 .f32) (u : FVec Ideal S2x2x64x64 .f32) {w : IVec S_ 32} {k : ℕ} (hk : k < 8448) (hw : w = fun _ => BitVec.ofNat 32 k)
    (t : Fin 8448) (d b : Fin 2) (g p : Fin 64) :
    Host.dynamicUpdateSlice x (broadcastInDim S1x2x2x64x64 ![1, 2, 3, 4] bcast_S2x2x64x64_S1x2x2x64x64_1_2_3_4 u) (fun a => (starts w a (Shape.Idx.first h_S_)).toInt) updateFits_S8448x2x2x64x64_S1x2x2x64x64 (ix5 t d b g p)
      = if t.val = k then u (ix4 d b g p) else x (ix5 t d b g p) := by
  rw [Host.dynamicUpdateSlice_eq_updateSlice x _ _ updateFits_S8448x2x2x64x64_S1x2x2x64x64 ![k, 0, 0, 0, 0] (fun a => by
    rw [starts_at hk hw]
    have := (slices_at hk).2 a
    omega) (slices_at hk)]
  pointwise
  by_cases ht : t.val = k
  · rw [dif_pos (by omega), if_pos ht]
  · rw [dif_neg (by omega), if_neg ht]

theorem ctr_at (V0 : Valuation τ sig (Elt Ideal)) (k : ℕ) (h : V0 (Proc.devRef .tc main_v67_4) = (fun _ => BitVec.ofNat 32 k : IVec S_ 32)) : step_main_v67_4 V0 = (fun _ => BitVec.ofNat 32 (k + 1) : IVec S_ 32) := by
  unfold step_main_v67_4
  rw [h]
  funext i
  show BitVec.ofNat 32 k + 1#32 = _
  rw [BitVec.ofNat_add]

/-- One step of the state at an entry, over any addend. -/
theorem re_at (l₂ l₃ : FVec Ideal S2x64x64 .f32) (s₅ s₆ e : FVec Ideal S2x2x64x64 .f32) (d b : Fin 2) (g p : Fin 64) :
    addf (subf (mulf (broadcastInDim S2x2x64x64 ![0, 1, 2, 3] bcast_S2x1x64x64_S2x2x64x64_0_1_2_3 (broadcastInDim S2x1x64x64 ![0, 2, 3] bcast_S2x64x64_S2x1x64x64_0_2_3 l₂)) s₅)
      (mulf (broadcastInDim S2x2x64x64 ![0, 1, 2, 3] bcast_S2x1x64x64_S2x2x64x64_0_1_2_3 (broadcastInDim S2x1x64x64 ![0, 2, 3] bcast_S2x64x64_S2x1x64x64_0_2_3 l₃)) s₆)) e (ix4 d b g p)
      = (l₂ (ix3 d g p) * s₅ (ix4 d b g p) - l₃ (ix3 d g p) * s₆ (ix4 d b g p) + e (ix4 d b g p) : EReal) := by
  pointwise

theorem im_at (l₂ l₃ : FVec Ideal S2x64x64 .f32) (s₅ s₆ e : FVec Ideal S2x2x64x64 .f32) (d b : Fin 2) (g p : Fin 64) :
    addf (addf (mulf (broadcastInDim S2x2x64x64 ![0, 1, 2, 3] bcast_S2x1x64x64_S2x2x64x64_0_1_2_3 (broadcastInDim S2x1x64x64 ![0, 2, 3] bcast_S2x64x64_S2x1x64x64_0_2_3 l₂)) s₆)
      (mulf (broadcastInDim S2x2x64x64 ![0, 1, 2, 3] bcast_S2x1x64x64_S2x2x64x64_0_1_2_3 (broadcastInDim S2x1x64x64 ![0, 2, 3] bcast_S2x64x64_S2x1x64x64_0_2_3 l₃)) s₅)) e (ix4 d b g p)
      = (l₂ (ix3 d g p) * s₆ (ix4 d b g p) + l₃ (ix3 d g p) * s₅ (ix4 d b g p) + e (ix4 d b g p) : EReal) := by
  pointwise

/-- What holds before step `k`: the counter, the state, and the states kept so far. -/
structure Inv (c : Dev nD) (k : ℕ) (V0 : Valuation τ sig (Elt Ideal)) : Prop where
  h0 : V0 (Proc.devRef .tc main_v67_0) = ent m c (Proc.devRef .tc main_v67_0)
  h1 : V0 (Proc.devRef .tc main_v67_1) = ent m c (Proc.devRef .tc main_v67_1)
  h2 : V0 (Proc.devRef .tc main_v67_2) = ent m c (Proc.devRef .tc main_v67_2)
  h3 : V0 (Proc.devRef .tc main_v67_3) = ent m c (Proc.devRef .tc main_v67_3)
  h4 : V0 (Proc.devRef .tc main_v67_4) = (fun _ => BitVec.ofNat 32 k : IVec S_ 32)
  h5 : ∀ d b g p, V0 (Proc.devRef .tc main_v67_5) (ix4 d b g p) = (S5Spec.st (par m c) d b g p k).1
  h6 : ∀ d b g p, V0 (Proc.devRef .tc main_v67_6) (ix4 d b g p) = (S5Spec.st (par m c) d b g p k).2
  h7 : ∀ (t : Fin 8448) d b g p, t.val < k → V0 (Proc.devRef .tc main_v67_7) (ix5 t d b g p) = (S5Spec.st (par m c) d b g p (t.val + 1)).1
  h8 : ∀ (t : Fin 8448) d b g p, t.val < k → V0 (Proc.devRef .tc main_v67_8) (ix5 t d b g p) = (S5Spec.st (par m c) d b g p (t.val + 1)).2

variable {m}

theorem Inv.re {c : Dev nD} {k : ℕ} {V0 : Valuation τ sig (Elt Ideal)} (h : Inv m c k V0) (hk : k < 8448) (d b : Fin 2) (g p : Fin 64) :
    res_main_while0b_v95 V0 (ix4 d b g p) = (S5Spec.st (par m c) d b g p (k + 1)).1 := by
  unfold res_main_while0b_v95
  refine (re_at _ _ _ _ _ d b g p).trans ?_
  refine (congrArg₂ (fun x y : EReal => x + y) (congrArg₂ (fun x y : EReal => x - y)
    (congrArg₂ (fun x y : EReal => x * y) ((congrFun h.h2 _).trans (lamR_at m c d g p)) (h.h5 d b g p))
    (congrArg₂ (fun x y : EReal => x * y) ((congrFun h.h3 _).trans (lamI_at m c d g p)) (h.h6 d b g p)))
    ((slice_at _ hk h.h4 d b g p).trans ((congrFun h.h0 _).trans (buR_at m c ⟨k, hk⟩ d b g p)))).trans ?_
  rfl

theorem Inv.im {c : Dev nD} {k : ℕ} {V0 : Valuation τ sig (Elt Ideal)} (h : Inv m c k V0) (hk : k < 8448) (d b : Fin 2) (g p : Fin 64) :
    res_main_while0b_v103 V0 (ix4 d b g p) = (S5Spec.st (par m c) d b g p (k + 1)).2 := by
  unfold res_main_while0b_v103
  refine (im_at _ _ _ _ _ d b g p).trans ?_
  refine (congrArg₂ (fun x y : EReal => x + y) (congrArg₂ (fun x y : EReal => x + y)
    (congrArg₂ (fun x y : EReal => x * y) ((congrFun h.h2 _).trans (lamR_at m c d g p)) (h.h6 d b g p))
    (congrArg₂ (fun x y : EReal => x * y) ((congrFun h.h3 _).trans (lamI_at m c d g p)) (h.h5 d b g p)))
    ((slice_at _ hk h.h4 d b g p).trans ((congrFun h.h1 _).trans (buI_at m c ⟨k, hk⟩ d b g p)))).trans ?_
  rfl

theorem Inv.step {c : Dev nD} {k : ℕ} {V0 : Valuation τ sig (Elt Ideal)} (h : Inv m c k V0) (hk : k < 8448) : Inv m c (k + 1) (STEP V0) where
  h0 := (STEP_main_v67_0 V0).trans h.h0
  h1 := (STEP_main_v67_1 V0).trans h.h1
  h2 := (STEP_main_v67_2 V0).trans h.h2
  h3 := (STEP_main_v67_3 V0).trans h.h3
  h4 := (STEP_main_v67_4 V0).trans (ctr_at V0 k h.h4)
  h5 := fun d b g p => (congrFun (STEP_main_v67_5 V0) _).trans (h.re hk d b g p)
  h6 := fun d b g p => (congrFun (STEP_main_v67_6 V0) _).trans (h.im hk d b g p)
  h7 := fun t d b g p ht => by
    refine (congrFun (STEP_main_v67_7 V0) _).trans ?_
    unfold step_main_v67_7
    refine (upd_at _ _ hk h.h4 t d b g p).trans ?_
    by_cases e : t.val = k
    · rw [if_pos e, e]
      exact h.re hk d b g p
    · rw [if_neg e]
      exact h.h7 t d b g p (by omega)
  h8 := fun t d b g p ht => by
    refine (congrFun (STEP_main_v67_8 V0) _).trans ?_
    unfold step_main_v67_8
    refine (upd_at _ _ hk h.h4 t d b g p).trans ?_
    by_cases e : t.val = k
    · rw [if_pos e, e]
      exact h.im hk d b g p
    · rw [if_neg e]
      exact h.h8 t d b g p (by omega)

theorem inv_all (c : Dev nD) : ∀ k, k ≤ 8448 → Inv m c k (STEP^[k] (ent m c))
  | 0, _ => ⟨rfl, rfl, rfl, rfl, ctr_ent m c, zeroR_at m c, zeroI_at m c, fun t _ _ _ _ h => absurd h (Nat.not_lt_zero _), fun t _ _ _ _ h => absurd h (Nat.not_lt_zero _)⟩
  | k + 1, hk => by
    rw [Function.iterate_succ_apply']
    exact (inv_all c k (by omega)).step (by omega)

/-- The readout of one entry. -/
theorem read_at (x y : FVec Ideal S8448x2x2x64x64 .f32) (a₇ a₈ : FVec Ideal S1x2x64x16x64 .f32) (d b : Fin 2) (t : Fin 8448) (g : Fin 64) (h : Fin 16) :
    addf (transpose S2x2x8448x64x16 [0, 3, 2, 1, 4] (Host.dotGeneral dot_S8448x2x2x64x64_S2x64x16x64_S2x64x8448x2x16_4_3_02_2_13_01 none x (shapeCast _ a₇ shapeCasts_S1x2x64x16x64_S2x64x16x64)) transposes_S2x64x8448x2x16_S2x2x8448x64x16_0_3_2_1_4)
      (transpose S2x2x8448x64x16 [0, 3, 2, 1, 4] (Host.dotGeneral dot_S8448x2x2x64x64_S2x64x16x64_S2x64x8448x2x16_4_3_02_2_13_01 none y (Host.negf (shapeCast _ a₈ shapeCasts_S1x2x64x16x64_S2x64x16x64))) transposes_S2x64x8448x2x16_S2x2x8448x64x16_0_3_2_1_4) (ix5 d b t g h)
      = (∑ p : Fin 64, x (ix5 t d b g p) * a₇ (ix5 0 d g h p) + ∑ p : Fin 64, y (ix5 t d b g p) * -a₈ (ix5 0 d g h p) : EReal) := by
  pointwise

end Cert.S5RefIdeal.Value

end
-- ==== Proof.S5RefVal.lean ====
module

public import proofs.«01_k».proof.Proof.Gen.S5RefIdeal.Run
public import proofs.«01_k».proof.Proof.S5RefStep
public import Idealize.ShloMosaic.Lib.Pipeline.ValueKit
public import Idealize.ShloMosaic.Lib.Pipeline.ReadBack
public import Idealize.ShloMosaic.Lib.DynamicIndex

@[expose] public section

set_option maxRecDepth 16384

noncomputable section

/-! The reference over the extended reals: the part of its readout after the products, and its result. -/

namespace Cert.S5RefIdeal.Value

open Cert.S5RefIdeal Cert.S5RefIdeal.Gen Idealize.ShloMosaic Idealize.ShloMosaic.TcCoe Idealize.ShloMosaic.StableHlo Idealize.SL.Sem

variable (m : (ℓ : Loc nD τ sig) → Buf (Elt Ideal) ℓ)

theorem rows_at (z : FVec Ideal S2x2x8448x64x16 .f32) (d b : Fin 2) (n : Fin 8192) (ch : Fin 1024) :
    shapeCast S2x2x8192x1024 (extractStridedSlice S2x2x8192x64x16 ![0, 0, 256, 0, 0] z slices_S2x2x8448x64x16_S2x2x8192x64x16_0_0_256_0_0) shapeCasts_S2x2x8192x64x16_S2x2x8192x1024 (ix4 d b n ch)
      = (z (ix5 d b ⟨256 + n.val, by omega⟩ ⟨ch.val / 16, by omega⟩ ⟨ch.val % 16, by omega⟩) : EReal) := by
  pointwise

theorem fwd_at (y : FVec Ideal S2x2x8192x1024 .f32) (b : Fin 2) (n : Fin 8192) (ch : Fin 1024) :
    broadcastInDim S1x2x8192x1024 ![1, 2, 3] bcast_S2x8192x1024_S1x2x8192x1024_1_2_3 (shapeCast S2x8192x1024 (extractStridedSlice S1x2x8192x1024 ![0, 0, 0, 0] y slices_S2x2x8192x1024_S1x2x8192x1024_0_0_0_0) shapeCasts_S1x2x8192x1024_S2x8192x1024) (ix4 0 b n ch)
      = (y (ix4 0 b n ch) : EReal) := by
  pointwise

theorem bwd_at (y : FVec Ideal S2x2x8192x1024 .f32) (b : Fin 2) (n : Fin 8192) (ch : Fin 1024) :
    broadcastInDim S1x2x8192x1024 ![1, 2, 3] bcast_S2x8192x1024_S1x2x8192x1024_1_2_3 (shapeCast S2x8192x1024 (Host.reverse [2] (extractStridedSlice S1x2x8192x1024 ![1, 0, 0, 0] y slices_S2x2x8192x1024_S1x2x8192x1024_1_0_0_0)) shapeCasts_S1x2x8192x1024_S2x8192x1024) (ix4 0 b n ch)
      = (y (ix4 1 b ⟨8191 - n.val, by omega⟩ ch) : EReal) := by
  pointwise
  simp only [List.mem_singleton, OfNat.ofNat_ne_one, OfNat.one_ne_ofNat, reduceIte, Fin.isValue, Fin.reduceEq, Nat.reduceEqDiff]
  refine congrArg (fun k => y (ix4 1 b k ch)) (Fin.ext ?_)
  show 8192 - (n.val + 1) = 8191 - n.val
  omega

theorem cat_at (u v : FVec Ideal S1x2x8192x1024 .f32) (d b : Fin 2) (n : Fin 8192) (ch : Fin 1024) :
    concatenate S2x2x8192x1024 0 [⟨S1x2x8192x1024, u⟩, ⟨S1x2x8192x1024, v⟩] concatenates_S1x2x8192x1024_S1x2x8192x1024_S2x2x8192x1024_d0 (ix4 d b n ch)
      = (if d.val < 1 then u (ix4 0 b n ch) else v (ix4 0 b n ch) : EReal) := by
  pointwise
  by_cases h : d.val < 1
  · rw [dif_pos h, if_pos h]
    exact congrArg (fun k => u (ix4 k b n ch)) (Fin.ext (by show d.val = 0; omega))
  · rw [dif_neg h, if_neg h]
    exact congrArg (fun k => v (ix4 k b n ch)) (Fin.ext (by show d.val - 1 = 0; omega))

/-- The part of the readout after the products: the latent tokens, the second direction turned back. -/
theorem tail_at (z : FVec Ideal S2x2x8448x64x16 .f32) (d b : Fin 2) (n : Fin 8192) (ch : Fin 1024) :
    concatenate S2x2x8192x1024 0 [⟨S1x2x8192x1024, (broadcastInDim S1x2x8192x1024 ![1, 2, 3] bcast_S2x8192x1024_S1x2x8192x1024_1_2_3 (shapeCast S2x8192x1024 (extractStridedSlice S1x2x8192x1024 ![0, 0, 0, 0] (shapeCast S2x2x8192x1024 (extractStridedSlice S2x2x8192x64x16 ![0, 0, 256, 0, 0] z slices_S2x2x8448x64x16_S2x2x8192x64x16_0_0_256_0_0) shapeCasts_S2x2x8192x64x16_S2x2x8192x1024) slices_S2x2x8192x1024_S1x2x8192x1024_0_0_0_0) shapeCasts_S1x2x8192x1024_S2x8192x1024))⟩,
      ⟨S1x2x8192x1024, (broadcastInDim S1x2x8192x1024 ![1, 2, 3] bcast_S2x8192x1024_S1x2x8192x1024_1_2_3 (shapeCast S2x8192x1024 (Host.reverse [2] (extractStridedSlice S1x2x8192x1024 ![1, 0, 0, 0] (shapeCast S2x2x8192x1024 (extractStridedSlice S2x2x8192x64x16 ![0, 0, 256, 0, 0] z slices_S2x2x8448x64x16_S2x2x8192x64x16_0_0_256_0_0) shapeCasts_S2x2x8192x64x16_S2x2x8192x1024) slices_S2x2x8192x1024_S1x2x8192x1024_1_0_0_0)) shapeCasts_S1x2x8192x1024_S2x8192x1024))⟩] concatenates_S1x2x8192x1024_S1x2x8192x1024_S2x2x8192x1024_d0 (ix4 d b n ch)
      = (z (ix5 d b ⟨S5Spec.after d n - 1, by unfold S5Spec.after; split <;> omega⟩ ⟨ch.val / 16, by omega⟩ ⟨ch.val % 16, by omega⟩) : EReal) := by
  refine (cat_at _ _ d b n ch).trans ?_
  by_cases h : d.val < 1
  · rw [if_pos h, fwd_at, rows_at]
    obtain rfl : d = 0 := Fin.ext (by show d.val = 0; omega)
    refine congrArg (fun k => z (ix5 0 b k _ _)) (Fin.ext ?_)
    show 256 + n.val = S5Spec.after 0 n - 1
    simp only [S5Spec.after, Fin.val_zero, if_true]
    omega
  · rw [if_neg h, bwd_at, rows_at]
    obtain rfl : d = 1 := Fin.ext (by show d.val = 1; omega)
    refine congrArg (fun k => z (ix5 1 b k _ _)) (Fin.ext ?_)
    show 256 + (8191 - n.val) = S5Spec.after 1 n - 1
    simp only [S5Spec.after, Fin.val_one, one_ne_zero, if_false]
    omega

theorem out_at (c : Dev nD) (d b : Fin 2) (n : Fin 8192) (ch : Fin 1024) :
    out_main_v85 (STEP^[8448] (entryContents preI m c)) (ix4 d b n ch) = S5Spec.out (par m c) d b n ch := by
  have hI : Inv m c 8448 (STEP^[8448] (entryContents preI m c)) := inv_all c 8448 le_rfl
  have h7 := iter_main_arg7 (m := m) c 8448
  have h8 := iter_main_arg8 (m := m) c 8448
  generalize STEP^[8448] (entryContents preI m c) = V0 at hI h7 h8
  have hn : S5Spec.after d n - 1 + 1 = S5Spec.after d n := by unfold S5Spec.after; split <;> omega
  unfold out_main_v85
  refine (tail_at _ d b n ch).trans ((read_at _ _ _ _ d b _ _ _).trans ?_)
  unfold S5Spec.out
  refine congrArg₂ (fun x y : EReal => x + y) (Finset.sum_congr rfl fun p _ => ?_) (Finset.sum_congr rfl fun p _ => ?_)
  · refine congrArg₂ (fun x y : EReal => x * y) ((hI.h7 _ d b _ p (Fin.isLt _)).trans ?_) (congrFun h7 _)
    exact congrArg (fun k => (S5Spec.st (par m c) d b _ p k).1) hn
  · refine congrArg₂ (fun x y : EReal => x * -y) ((hI.h8 _ d b _ p (Fin.isLt _)).trans ?_) (congrFun h8 _)
    exact congrArg (fun k => (S5Spec.st (par m c) d b _ p k).2) hn

/-- The reference's result is the scan's readout. -/
theorem out_all (m : (ℓ : Loc nD τ sig) → Buf (Elt Ideal) ℓ) (c : Dev nD) :
    out_main_v85 (STEP^[8448] (entryContents preI m c)) = fun x => S5Spec.out (par m c) (x 0) (x 1) (x 2) (x 3) := by
  funext x
  refine Eq.trans (congrArg _ (funext fun a => ?_)) (out_at m c (x 0) (x 1) (x 2) (x 3))
  match a with
  | 0 => rfl
  | 1 => rfl
  | 2 => rfl
  | 3 => rfl

end Cert.S5RefIdeal.Value

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.S5
public import proofs.«01_k».proof.Proof.Gen.S5.Skeleton
public import proofs.«01_k».proof.Proof.Gen.S5.Launch
public import proofs.«01_k».proof.Proof.Gen.S5.Points
public import proofs.«01_k».proof.Proof.Gen.S5.Frame
public import proofs.«01_k».proof.Proof.Gen.S5Ideal
public import proofs.«01_k».proof.Proof.Gen.S5Ideal.Skeleton
public import proofs.«01_k».proof.Proof.Gen.S5Ideal.Launch
public import proofs.«01_k».proof.Proof.Gen.S5Ideal.Points
public import proofs.«01_k».proof.Proof.Gen.S5Ideal.Frame
public import proofs.«01_k».proof.Proof.Gen.S5RefIdeal
public import proofs.«01_k».proof.Proof.Gen.S5RefIdeal.Run
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.GluIdeal.Value
public import proofs.«01_k».proof.Proof.Gen.GluRefIdeal.Run
public import proofs.«01_k».proof.Proof.Gen.GluRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.OutProjIdeal.Value
public import proofs.«01_k».proof.Proof.Gen.OutProjRefIdeal.Run
public import proofs.«01_k».proof.Proof.Gen.OutProjRefIdeal.Read
public import Idealize.ShloMosaic.Adequacy
public import Idealize.ShloMosaic.Init
public import proofs.«01_k».proof.Proof.FfnVal
public import proofs.«01_k».proof.Proof.InProjVal
public import proofs.«01_k».proof.Proof.GluVal
public import proofs.«01_k».proof.Proof.MergeVal
public import proofs.«01_k».proof.Proof.OutProjVal
public import proofs.«01_k».proof.Proof.S5Bits
public import proofs.«01_k».proof.Proof.S5Val
public import proofs.«01_k».proof.Proof.S5RefVal
public import Idealize.ShloMosaic.Lib.Claim

@[expose] public section

set_option maxRecDepth 16384

noncomputable section

namespace Cert.Proof

open Idealize.ShloMosaic Idealize.SL.Sem

/-- The reference of `Ffn` runs and keeps its arguments, every counter back at zero. -/
theorem quiescent_FfnRefIdeal : Cert.quiescent_FfnRefIdeal (hFfnRefIdeal := Cert.FfnRefIdeal.Gen.facts) := by
  intro m g _
  exact (θ_run _ _ _).mono (fun r h => ⟨fun c => (h c).2, sem_eq_zero_of_no_sems rfl _⟩) (Cert.FfnRefIdeal.Value.run m g)

/-- `Ffn`, over the extended reals, ends with its reference's result. -/
theorem algebraic_Ffn : Cert.algebraic_FfnIdeal_FfnRefIdeal (hFfnIdeal := Cert.FfnIdeal.Gen.facts)
    (hFfnRefIdeal := Cert.FfnRefIdeal.Gen.facts) := by
  pair_intro
  · run_from Cert.FfnIdeal.Value.run_blocks m g
  · have hv : ∀ c, Cert.FfnRefIdeal.Value.res_main_v46 m' c = (Cert.FfnIdeal.Gen.dats m 0 c).arrAt 9 Cert.FfnIdeal.cfg0.N := by
      intro c
      obtain ⟨e0, e1, e2, e3, e4, e5, e6, e7⟩ := hagree c
      refine (Cert.FfnRefIdeal.Read.val_main_v46_eq m' c).trans ?_
      rw [e0, e1, e2, e3, e4, e5, e6, e7]
      exact (Cert.FfnIdeal.Value.final m c).symm
    exact (θ_run _ _ _).mono (fun r h c => ⟨(h c).1.trans (hv c), (h c).2⟩) (Cert.FfnRefIdeal.Value.run m' g')

/-- The reference of `InProj` runs and keeps its arguments, every counter back at zero. -/
theorem quiescent_InProjRefIdeal : Cert.quiescent_InProjRefIdeal (hInProjRefIdeal := Cert.InProjRefIdeal.Gen.facts) := by
  intro m g _
  exact (θ_run _ _ _).mono (fun r h => ⟨fun c => (h c).2, sem_eq_zero_of_no_sems rfl _⟩) (Cert.InProjRefIdeal.Value.run m g)

/-- `InProj`, over the extended reals, ends with its reference's result. -/
theorem algebraic_InProj : Cert.algebraic_InProjIdeal_InProjRefIdeal (hInProjIdeal := Cert.InProjIdeal.Gen.facts)
    (hInProjRefIdeal := Cert.InProjRefIdeal.Gen.facts) := by
  pair_intro
  · run_from Cert.InProjIdeal.Value.run_blocks m g
  · have hv : ∀ c, Cert.InProjRefIdeal.Value.res_main_v55 m' c = (Cert.InProjIdeal.Gen.dats m 0 c).arrAt 7 Cert.InProjIdeal.cfg0.N := by
      intro c
      obtain ⟨e0, e1, e2, e3, e4⟩ := hagree c
      refine (Cert.InProjRefIdeal.Read.val_main_v55_eq m' c).trans ?_
      rw [e0, e1, e2, e3, e4]
      exact (Cert.InProjIdeal.Value.final m c).symm
    exact (θ_run _ _ _).mono (fun r h c => ⟨(h c).1.trans (hv c), (h c).2⟩) (Cert.InProjRefIdeal.Value.run m' g')

/-- The reference of `Glu` runs and keeps its arguments, every counter back at zero. -/
theorem quiescent_GluRefIdeal : Cert.quiescent_GluRefIdeal (hGluRefIdeal := Cert.GluRefIdeal.Gen.facts) := by
  intro m g _
  exact (θ_run _ _ _).mono (fun r h => ⟨fun c => (h c).2, sem_eq_zero_of_no_sems rfl _⟩) (Cert.GluRefIdeal.Value.run m g)

/-- `Glu`, over the extended reals, ends with its reference's result. -/
theorem algebraic_Glu : Cert.algebraic_GluIdeal_GluRefIdeal (hGluIdeal := Cert.GluIdeal.Gen.facts)
    (hGluRefIdeal := Cert.GluRefIdeal.Gen.facts) := by
  pair_intro
  · run_from Cert.GluIdeal.Value.run_blocks m g
  · have hv : ∀ c, Cert.GluRefIdeal.Value.res_main_v36 m' c = (Cert.GluIdeal.Gen.dats m 0 c).arrAt 5 Cert.GluIdeal.cfg0.N := by
      intro c
      obtain ⟨e0, e1, e2, e3⟩ := hagree c
      refine (Cert.GluRefIdeal.Read.val_main_v36_eq m' c).trans ?_
      rw [e0, e1, e2, e3]
      exact (Cert.GluIdeal.Value.final m c).symm
    exact (θ_run _ _ _).mono (fun r h c => ⟨(h c).1.trans (hv c), (h c).2⟩) (Cert.GluRefIdeal.Value.run m' g')

/-- The reference of `Merge` runs and keeps its arguments, every counter back at zero. -/
theorem quiescent_MergeRefIdeal : Cert.quiescent_MergeRefIdeal (hMergeRefIdeal := Cert.MergeRefIdeal.Gen.facts) := by
  intro m g _
  exact (θ_run _ _ _).mono (fun r h => ⟨fun c => (h c).2, sem_eq_zero_of_no_sems rfl _⟩) (Cert.MergeRefIdeal.Value.run m g)

/-- `Merge`, over the extended reals, ends with its reference's result. -/
theorem algebraic_Merge : Cert.algebraic_MergeIdeal_MergeRefIdeal (hMergeIdeal := Cert.MergeIdeal.Gen.facts)
    (hMergeRefIdeal := Cert.MergeRefIdeal.Gen.facts) := by
  pair_intro
  · run_from Cert.MergeIdeal.Value.run_blocks m g
  · run_from Cert.MergeRefIdeal.Value.run m' g'
    exact (Cert.MergeIdeal.Value.final m c).symm

/-- The reference of `OutProj` runs and keeps its arguments, every counter back at zero. -/
theorem quiescent_OutProjRefIdeal : Cert.quiescent_OutProjRefIdeal (hOutProjRefIdeal := Cert.OutProjRefIdeal.Gen.facts) := by
  intro m g _
  exact (θ_run _ _ _).mono (fun r h => ⟨fun c => (h c).2, sem_eq_zero_of_no_sems rfl _⟩) (Cert.OutProjRefIdeal.Value.run m g)

/-- `OutProj`, over the extended reals, ends with its reference's result. -/
theorem algebraic_OutProj : Cert.algebraic_OutProjIdeal_OutProjRefIdeal (hOutProjIdeal := Cert.OutProjIdeal.Gen.facts)
    (hOutProjRefIdeal := Cert.OutProjRefIdeal.Gen.facts) := by
  pair_intro
  · run_from Cert.OutProjIdeal.Value.run_blocks m g
  · run_from Cert.OutProjRefIdeal.Value.run m' g'
    exact (Cert.OutProjIdeal.Value.final m c).symm

/-- The reference of `S5` runs and keeps its arguments, every counter back at zero. -/
theorem quiescent_S5RefIdeal : Cert.quiescent_S5RefIdeal (hS5RefIdeal := Cert.S5RefIdeal.Gen.facts) := by
  intro m g _
  exact (θ_run _ _ _).mono (fun r h => ⟨fun c => (h c).2, sem_eq_zero_of_no_sems rfl _⟩) (Cert.S5RefIdeal.Value.run m g)

/-- Parameters with equal entries are equal. -/
theorem par_congr {a b : Cert.S5Spec.Par} (h0 : a.uc = b.uc) (h1 : a.px = b.px) (h2 : a.re = b.re) (h3 : a.im = b.im) (h4 : a.dt = b.dt)
    (h5 : a.bre = b.bre) (h6 : a.bim = b.bim) (h7 : a.cre = b.cre) (h8 : a.cim = b.cim) : a = b := by
  cases a; cases b
  dsimp only at h0 h1 h2 h3 h4 h5 h6 h7 h8
  rw [h0, h1, h2, h3, h4, h5, h6, h7, h8]

/-- `S5`, over the extended reals, ends with its reference's result. -/
theorem algebraic_S5 : Cert.algebraic_S5Ideal_S5RefIdeal (hS5Ideal := Cert.S5Ideal.Gen.facts)
    (hS5RefIdeal := Cert.S5RefIdeal.Gen.facts) := by
  pair_intro
  · run_from Cert.S5Ideal.Body.run_blocks m g
  · have hv : ∀ c, Cert.S5RefIdeal.Value.out_main_v85 (Cert.S5RefIdeal.Value.STEP^[8448] (StableHlo.entryContents Cert.S5RefIdeal.Value.preI m' c))
        = (Cert.S5Ideal.Body.dats m 0 c).arrAt 6 Cert.S5Ideal.cfg0.N := by
      intro c
      have hp : Cert.S5RefIdeal.Value.par m' c = Cert.S5Ideal.Body.par m c := by
        obtain ⟨e0, e1, e2, e3, e4, e5, e6, e7, e8⟩ := hagree c
        exact par_congr e0 e1 e2 e3 e4 e5 e6 e7 e8
      refine Eq.trans ?_ (Cert.S5Ideal.Body.final m c).symm
      rw [← hp]
      exact Cert.S5RefIdeal.Value.out_all m' c
    exact (θ_run _ _ _).mono (fun r h c => ⟨(h c).1.trans (hv c), (h c).2⟩) (Cert.S5RefIdeal.Value.run m' g')

/-- Every claim. -/
theorem claim : Cert.Claim :=
  ⟨Cert.Ffn.Gen.facts, Cert.FfnIdeal.Gen.facts, Cert.FfnRefIdeal.Gen.facts, Cert.InProj.Gen.facts, Cert.InProjIdeal.Gen.facts, Cert.InProjRefIdeal.Gen.facts, Cert.Glu.Gen.facts, Cert.GluIdeal.Gen.facts, Cert.GluRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.S5.Gen.facts, Cert.S5Ideal.Gen.facts, Cert.S5RefIdeal.Gen.facts,
    (fun m ρ _ => Cert.Ffn.Gen.frame m ρ), (fun m ρ _ => Cert.FfnIdeal.Gen.frame m ρ), quiescent_FfnRefIdeal, (fun m ρ _ => Cert.InProj.Gen.frame m ρ), (fun m ρ _ => Cert.InProjIdeal.Gen.frame m ρ), quiescent_InProjRefIdeal, (fun m ρ _ => Cert.Glu.Gen.frame m ρ), (fun m ρ _ => Cert.GluIdeal.Gen.frame m ρ), quiescent_GluRefIdeal, (fun m ρ _ => Cert.Merge.Gen.frame m ρ), (fun m ρ _ => Cert.MergeIdeal.Gen.frame m ρ), quiescent_MergeRefIdeal, (fun m ρ _ => Cert.OutProj.Gen.frame m ρ), (fun m ρ _ => Cert.OutProjIdeal.Gen.frame m ρ), quiescent_OutProjRefIdeal, Cert.S5Ideal.Body.frame_bits, (fun m ρ _ => Cert.S5Ideal.Body.frame m ρ), quiescent_S5RefIdeal,
    trivial, algebraic_Ffn, trivial, algebraic_InProj, trivial, algebraic_Glu, trivial, algebraic_Merge, trivial, algebraic_OutProj, trivial, algebraic_S5⟩

end Cert.Proof

end
